-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Prep_PrepIdeal : Prop :=
  IdealRules.bf16_pair.Statement Cert.PrepIdeal.S256x128 Cert.PrepIdeal.S128x128
  ∧ IdealRules.bf16_pack.Statement Cert.PrepIdeal.S128x128

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v0_0) = v0 c
          ∧ r.2.mem ((c.tc : Thread Cert.PrepReferenceIdeal.nD Cert.PrepReferenceIdeal.τ).loc Cert.PrepReferenceIdeal.main_v0_1) = v1 c
          ∧ r.2.mem ((c.tc : Thread Cert.PrepReferenceIdeal.nD Cert.PrepReferenceIdeal.τ).loc Cert.PrepReferenceIdeal.main_v0_2) = v2 c
          ∧ r.2.mem ((c.tc : Thread Cert.PrepReferenceIdeal.nD Cert.PrepReferenceIdeal.τ).loc Cert.PrepReferenceIdeal.main_v0_3) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
    ∧ preserves_Prep_PrepIdeal
    ∧ algebraic_PrepIdeal_PrepReferenceIdeal (hPrepIdeal := hPrepIdeal) (hPrepReferenceIdeal := hPrepReferenceIdeal)
-- ==== Pre_rows_in_range.lean ====
abbrev S6x18432x128 : Shape := ⟨3, ![6, 18432, 128]⟩
abbrev S6x18432 : Shape := ⟨2, ![6, 18432]⟩
abbrev S672x18432 : Shape := ⟨2, ![672, 18432]⟩
abbrev S6x112x1 : Shape := ⟨3, ![6, 112, 1]⟩
abbrev S18432x2304 : Shape := ⟨2, ![18432, 2304]⟩
abbrev S1x18432 : Shape := ⟨2, ![1, 18432]⟩
abbrev S672x2304 : Shape := ⟨2, ![672, 2304]⟩
abbrev S1x2304 : Shape := ⟨2, ![1, 2304]⟩
abbrev S6x128x18432 : Shape := ⟨3, ![6, 128, 18432]⟩
abbrev S6x112x18432 : Shape := ⟨3, ![6, 112, 18432]⟩
abbrev S6x1x18432 : Shape := ⟨3, ![6, 1, 18432]⟩
abbrev S_ : Shape := ⟨0, ![]⟩

class Facts : Prop where
  transposes_S6x18432x128_S6x128x18432_0_2_1 : S6x18432x128.Transposes [0, 2, 1] S6x128x18432
  slices_S6x128x18432_S6x112x18432_0_0_0 : S6x128x18432.Slices ![0, 0, 0] S6x112x18432
  bcast_S6x18432_S6x1x18432_0_2 : S6x18432.BroadcastsInDim S6x1x18432 (![0, 2] : Fin 2 → Fin S6x1x18432.rank)
  bcast_S6x1x18432_S6x112x18432_0_1_2 : S6x1x18432.BroadcastsInDim S6x112x18432 (![0, 1, 2] : Fin 3 → Fin S6x112x18432.rank)
  bcast_S6x112x1_S6x112x18432_0_1_2 : S6x112x1.BroadcastsInDim S6x112x18432 (![0, 1, 2] : Fin 3 → Fin S6x112x18432.rank)
  reducesTo_S6x112x18432_S6x18432_d1 : S6x112x18432.ReducesTo [1] S6x18432
  h_S_ : 0 < S_.numel
  bcast_S_S6x18432 : S_.BroadcastsInDim S6x18432 (![] : Fin 0 → Fin S6x18432.rank)
  reducesTo_S6x18432_S_d0_1 : S6x18432.ReducesTo [0, 1] S_

variable [Facts]

def fn_part1 {F : FTy → Type} [FloatOps F] (main_v15 : FVec F S6x18432 .f32) (main_v17 : IVec S6x18432 1) (main_v19 : IVec S6x18432 1) : IVec S_ 1 :=
  let main_cst_3 : FVec F S_ .f32 := constant S_ .f32 0x7E800000#32
  let main_v20 : FVec F S6x18432 .f32 := broadcastInDim S6x18432 ![] bcast_S_S6x18432 main_cst_3
  let main_v21 : IVec S6x18432 1 := cmpf .olt main_v15 main_v20
  let main_v22 : IVec S6x18432 1 := andi main_v19 main_v21
  let main_v23 : IVec S6x18432 1 := ori main_v17 main_v22
  let main_c : IVec S_ 1 := constantI S_ 1 1#1
  let main_v24 : IVec S_ 1 := (fun x v => Host.reduce IntOp.andi x v reducesTo_S6x18432_S_d0_1 h_S_) main_v23 main_c
  main_v24

def fn {F : FTy → Type} [FloatOps F] (main_arg0 : FVec F S6x18432x128 .f32) (main_arg1 : FVec F S6x18432 .f32) (main_arg2 : FVec F S6x18432 .f32) (main_arg3 : FVec F S672x18432 .fp8e4m3) (main_arg4 : FVec F S6x18432 .f32) (main_arg5 : FVec F S6x112x1 .f32) (main_arg6 : FVec F S6x112x1 .f32) (main_arg7 : FVec F S18432x2304 .fp8e4m3) (main_arg8 : FVec F S1x18432 .f32) (main_arg9 : FVec F S672x2304 .fp8e4m3) (main_arg10 : FVec F S1x2304 .f32) : IVec S_ 1 :=
  let main_v0 : FVec F S6x128x18432 .f32 := (transpose S6x128x18432 [0, 2, 1] · transposes_S6x18432x128_S6x128x18432_0_2_1) main_arg0
  let main_v1 : FVec F S6x112x18432 .f32 := (extractStridedSlice S6x112x18432 ![0, 0, 0] · slices_S6x128x18432_S6x112x18432_0_0_0) main_v0
  let main_v2 : FVec F S6x1x18432 .f32 := broadcastInDim S6x1x18432 ![0, 2] bcast_S6x18432_S6x1x18432_0_2 main_arg1
  let main_v3 : FVec F S6x112x18432 .f32 := broadcastInDim S6x112x18432 ![0, 1, 2] bcast_S6x1x18432_S6x112x18432_0_1_2 main_v2
  let main_v4 : FVec F S6x112x18432 .f32 := broadcastInDim S6x112x18432 ![0, 1, 2] bcast_S6x112x1_S6x112x18432_0_1_2 main_arg5
  let main_v5 : FVec F S6x112x18432 .f32 := mulf main_v3 main_v4
  let main_v6 : FVec F S6x112x18432 .f32 := addf main_v1 main_v5
  let main_v7 : FVec F S6x1x18432 .f32 := broadcastInDim S6x1x18432 ![0, 2] bcast_S6x18432_S6x1x18432_0_2 main_arg2
  let main_v8 : FVec F S6x112x18432 .f32 := broadcastInDim S6x112x18432 ![0, 1, 2] bcast_S6x1x18432_S6x112x18432_0_1_2 main_v7
  let main_v9 : FVec F S6x112x18432 .f32 := broadcastInDim S6x112x18432 ![0, 1, 2] bcast_S6x112x1_S6x112x18432_0_1_2 main_arg6
  let main_v10 : FVec F S6x112x18432 .f32 := mulf main_v8 main_v9
  let main_v11 : FVec F S6x112x18432 .f32 := addf main_v6 main_v10
  let main_v12 : FVec F S6x112x18432 .f32 := Host.absf main_v11
  let main_cst : FVec F S_ .f32 := constant S_ .f32 0xFF800000#32
  let main_v13 : FVec F S6x18432 .f32 := (fun x v => Host.reduce FloatOps.maximumf x v reducesTo_S6x112x18432_S6x18432_d1 h_S_) main_v12 main_cst
  let main_cst_0 : FVec F S_ .f32 := constant S_ .f32 0x37924925#32
  let main_v14 : FVec F S6x18432 .f32 := broadcastInDim S6x18432 ![] bcast_S_S6x18432 main_cst_0
  let main_v15 : FVec F S6x18432 .f32 := mulf main_v13 main_v14
  let main_cst_1 : FVec F S_ .f32 := constant S_ .f32 0x00000000#32
  let main_v16 : FVec F S6x18432 .f32 := broadcastInDim S6x18432 ![] bcast_S_S6x18432 main_cst_1
  let main_v17 : IVec S6x18432 1 := cmpf .oeq main_v13 main_v16
  let main_cst_2 : FVec F S_ .f32 := constant S_ .f32 0x00800000#32
  let main_v18 : FVec F S6x18432 .f32 := broadcastInDim S6x18432 ![] bcast_S_S6x18432 main_cst_2
  let main_v19 : IVec S6x18432 1 := cmpf .oge main_v15 main_v18
  fn_part1 (F := F) main_v15 main_v17 main_v19
-- ==== Kernel.lean ====
abbrev S6x18432x128 : Shape := ⟨3, ![6, 18432, 128]⟩
abbrev S6x18432 : Shape := ⟨2, ![6, 18432]⟩
abbrev S672x18432 : Shape := ⟨2, ![672, 18432]⟩
abbrev S6x112x1 : Shape := ⟨3, ![6, 112, 1]⟩
abbrev S18432x2304 : Shape := ⟨2, ![18432, 2304]⟩
abbrev S1x18432 : Shape := ⟨2, ![1, 18432]⟩
abbrev S672x2304 : Shape := ⟨2, ![672, 2304]⟩
abbrev S1x2304 : Shape := ⟨2, ![1, 2304]⟩
abbrev S6x112x128 : Shape := ⟨3, ![6, 112, 128]⟩
abbrev S6x1536x128 : Shape := ⟨3, ![6, 1536, 128]⟩
abbrev S6x1536 : Shape := ⟨2, ![6, 1536]⟩
abbrev S672x1536 : Shape := ⟨2, ![672, 1536]⟩
abbrev S1536x2304 : Shape := ⟨2, ![1536, 2304]⟩
abbrev S1x1536 : Shape := ⟨2, ![1, 1536]⟩
abbrev S1x1536x128 : Shape := ⟨3, ![1, 1536, 128]⟩
abbrev S1536x128 : Shape := ⟨2, ![1536, 128]⟩
abbrev S128x1536 : Shape := ⟨2, ![128, 1536]⟩
abbrev S112x1536 : Shape := ⟨2, ![112, 1536]⟩
abbrev S1x112x1 : Shape := ⟨3, ![1, 112, 1]⟩
abbrev S112x1 : Shape := ⟨2, ![112, 1]⟩
abbrev S1536 : Shape := ⟨1, ![1536]⟩
abbrev S224x1536 : Shape := ⟨2, ![224, 1536]⟩
abbrev S1x112x128 : Shape := ⟨3, ![1, 112, 128]⟩
abbrev S112x128 : Shape := ⟨2, ![112, 128]⟩
abbrev S672x256 : Shape := ⟨2, ![672, 256]⟩
abbrev S256x2304 : Shape := ⟨2, ![256, 2304]⟩
abbrev S1536x256 : Shape := ⟨2, ![1536, 256]⟩
abbrev S112 : Shape := ⟨1, ![112]⟩

abbrev nBuf : Space → Nat
  | .hbm => 17
  | .vmem => 29
  | .smem => 0
  | _ => 0

abbrev bufTy : (tb : Table) → Fin (tcTables nBuf tb) → BufTy
  | .hbm, ⟨0, _⟩ => ⟨S6x18432x128, .f32⟩
  | .hbm, ⟨1, _⟩ => ⟨S6x18432, .f32⟩
  | .hbm, ⟨2, _⟩ => ⟨S6x18432, .f32⟩
  | .hbm, ⟨3, _⟩ => ⟨S672x18432, .fp8e4m3⟩
  | .hbm, ⟨4, _⟩ => ⟨S6x18432, .f32⟩
  | .hbm, ⟨5, _⟩ => ⟨S6x112x1, .f32⟩
  | .hbm, ⟨6, _⟩ => ⟨S6x112x1, .f32⟩
  | .hbm, ⟨7, _⟩ => ⟨S18432x2304, .fp8e4m3⟩
  | .hbm, ⟨8, _⟩ => ⟨S1x18432, .f32⟩
  | .hbm, ⟨9, _⟩ => ⟨S672x2304, .fp8e4m3⟩
  | .hbm, ⟨10, _⟩ => ⟨S1x2304, .f32⟩
  | .hbm, ⟨11, _⟩ => ⟨S18432x2304, .bf16⟩
  | .hbm, ⟨12, _⟩ => ⟨S672x2304, .f32⟩
  | .hbm, ⟨13, _⟩ => ⟨S6x112x128, .f32⟩
  | .hbm, ⟨14, _⟩ => ⟨S6x112x128, .f32⟩
  | .hbm, ⟨15, _⟩ => ⟨S672x18432, .fp8e5m2⟩
  | .hbm, ⟨16, _⟩ => ⟨S6x18432, .f32⟩
  | .local _ .vmem, ⟨0, _⟩ => ⟨S6x1536x128, .f32⟩
  | .local _ .vmem, ⟨1, _⟩ => ⟨S6x1536x128, .f32⟩
  | .local _ .vmem, ⟨2, _⟩ => ⟨S6x1536, .f32⟩
  | .local _ .vmem, ⟨3, _⟩ => ⟨S6x1536, .f32⟩
  | .local _ .vmem, ⟨4, _⟩ => ⟨S6x1536, .f32⟩
  | .local _ .vmem, ⟨5, _⟩ => ⟨S6x1536, .f32⟩
  | .local _ .vmem, ⟨6, _⟩ => ⟨S672x1536, .fp8e4m3⟩
  | .local _ .vmem, ⟨7, _⟩ => ⟨S672x1536, .fp8e4m3⟩
  | .local _ .vmem, ⟨8, _⟩ => ⟨S6x1536, .f32⟩
  | .local _ .vmem, ⟨9, _⟩ => ⟨S6x1536, .f32⟩
  | .local _ .vmem, ⟨10, _⟩ => ⟨S6x112x1, .f32⟩
  | .local _ .vmem, ⟨11, _⟩ => ⟨S6x112x1, .f32⟩
  | .local _ .vmem, ⟨12, _⟩ => ⟨S1536x2304, .fp8e4m3⟩
  | .local _ .vmem, ⟨13, _⟩ => ⟨S1536x2304, .fp8e4m3⟩
  | .local _ .vmem, ⟨14, _⟩ => ⟨S1x1536, .f32⟩
  | .local _ .vmem, ⟨15, _⟩ => ⟨S1x1536, .f32⟩
  | .local _ .vmem, ⟨16, _⟩ => ⟨S672x2304, .fp8e4m3⟩
  | .local _ .vmem, ⟨17, _⟩ => ⟨S1x2304, .f32⟩
  | .local _ .vmem, ⟨18, _⟩ => ⟨S1536x2304, .bf16⟩
  | .local _ .vmem, ⟨19, _⟩ => ⟨S1536x2304, .bf16⟩
  | .local _ .vmem, ⟨20, _⟩ => ⟨S672x2304, .f32⟩
  | .local _ .vmem, ⟨21, _⟩ => ⟨S6x112x128, .f32⟩
  | .local _ .vmem, ⟨22, _⟩ => ⟨S6x112x128, .f32⟩
  | .local _ .vmem, ⟨23, _⟩ => ⟨S672x1536, .fp8e5m2⟩
  | .local _ .vmem, ⟨24, _⟩ => ⟨S672x1536, .fp8e5m2⟩
  | .local _ .vmem, ⟨25, _⟩ => ⟨S6x1536, .f32⟩
  | .local _ .vmem, ⟨26, _⟩ => ⟨S6x1536, .f32⟩
  | .local _ .vmem, ⟨27, _⟩ => ⟨S672x1536, .bf16⟩
  | .local _ .vmem, ⟨28, _⟩ => ⟨S672x1536, .bf16⟩
  | _, _ => ⟨S6x18432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S672x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x112x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x112x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x2304 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S672x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1536x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S672x2304 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x112x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x112x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S672x1536 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S6x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S6x18432x128 : Shape := ⟨3, ![6, 18432, 128]⟩
abbrev S6x18432 : Shape := ⟨2, ![6, 18432]⟩
abbrev S672x18432 : Shape := ⟨2, ![672, 18432]⟩
abbrev S6x112x1 : Shape := ⟨3, ![6, 112, 1]⟩
abbrev S18432x2304 : Shape := ⟨2, ![18432, 2304]⟩
abbrev S1x18432 : Shape := ⟨2, ![1, 18432]⟩
abbrev S672x2304 : Shape := ⟨2, ![672, 2304]⟩
abbrev S1x2304 : Shape := ⟨2, ![1, 2304]⟩
abbrev S6x112x128 : Shape := ⟨3, ![6, 112, 128]⟩
abbrev S6x128x18432 : Shape := ⟨3, ![6, 128, 18432]⟩
abbrev S6x112x18432 : Shape := ⟨3, ![6, 112, 18432]⟩
abbrev S6x1x18432 : Shape := ⟨3, ![6, 1, 18432]⟩
abbrev S18432x1 : Shape := ⟨2, ![18432, 1]⟩
abbrev S6x112 : Shape := ⟨2, ![6, 112]⟩

abbrev nBuf : Space → Nat
  | .hbm => 17
  | .vmem => 17
  | .smem => 0
  | _ => 0

abbrev bufTy : (tb : Table) → Fin (tcTables nBuf tb) → BufTy
  | .hbm, ⟨0, _⟩ => ⟨S6x18432x128, .f32⟩
  | .hbm, ⟨1, _⟩ => ⟨S6x18432, .f32⟩
  | .hbm, ⟨2, _⟩ => ⟨S6x18432, .f32⟩
  | .hbm, ⟨3, _⟩ => ⟨S672x18432, .fp8e4m3⟩
  | .hbm, ⟨4, _⟩ => ⟨S6x18432, .f32⟩
  | .hbm, ⟨5, _⟩ => ⟨S6x112x1, .f32⟩
  | .hbm, ⟨6, _⟩ => ⟨S6x112x1, .f32⟩
  | .hbm, ⟨7, _⟩ => ⟨S18432x2304, .fp8e4m3⟩
  | .hbm, ⟨8, _⟩ => ⟨S1x18432, .f32⟩
  | .hbm, ⟨9, _⟩ => ⟨S672x2304, .fp8e4m3⟩
  | .hbm, ⟨10, _⟩ => ⟨S1x2304, .f32⟩
  | .hbm, ⟨11, _⟩ => ⟨S18432x2304, .bf16⟩
  | .hbm, ⟨12, _⟩ => ⟨S672x2304, .f32⟩
  | .hbm, ⟨13, _⟩ => ⟨S6x112x128, .f32⟩
  | .hbm, ⟨14, _⟩ => ⟨S6x112x128, .f32⟩
  | .hbm, ⟨15, _⟩ => ⟨S672x18432, .fp8e5m2⟩
  | .hbm, ⟨16, _⟩ => ⟨S6x18432, .f32⟩
  | .local _ .vmem, ⟨0, _⟩ => ⟨S6x18432x128, .f32⟩
  | .local _ .vmem, ⟨1, _⟩ => ⟨S6x18432, .f32⟩
  | .local _ .vmem, ⟨2, _⟩ => ⟨S6x18432, .f32⟩
  | .local _ .vmem, ⟨3, _⟩ => ⟨S672x18432, .fp8e4m3⟩
  | .local _ .vmem, ⟨4, _⟩ => ⟨S6x18432, .f32⟩
  | .local _ .vmem, ⟨5, _⟩ => ⟨S6x112x1, .f32⟩
  | .local _ .vmem, ⟨6, _⟩ => ⟨S6x112x1, .f32⟩
  | .local _ .vmem, ⟨7, _⟩ => ⟨S18432x2304, .fp8e4m3⟩
  | .local _ .vmem, ⟨8, _⟩ => ⟨S1x18432, .f32⟩
  | .local _ .vmem, ⟨9, _⟩ => ⟨S672x2304, .fp8e4m3⟩
  | .local _ .vmem, ⟨10, _⟩ => ⟨S1x2304, .f32⟩
  | .local _ .vmem, ⟨11, _⟩ => ⟨S18432x2304, .bf16⟩
  | .local _ .vmem, ⟨12, _⟩ => ⟨S672x2304, .f32⟩
  | .local _ .vmem, ⟨13, _⟩ => ⟨S6x112x128, .f32⟩
  | .local _ .vmem, ⟨14, _⟩ => ⟨S6x112x128, .f32⟩
  | .local _ .vmem, ⟨15, _⟩ => ⟨S672x18432, .fp8e5m2⟩
  | .local _ .vmem, ⟨16, _⟩ => ⟨S6x18432, .f32⟩
  | _, _ => ⟨S6x18432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S6x18432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S672x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x112x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x112x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18432x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x18432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S672x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S18432x2304 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S672x2304 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x112x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x112x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S672x18432 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x18432 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Prep.lean ====
abbrev S6x112x18432 : Shape := ⟨3, ![6, 112, 18432]⟩
abbrev S6x18432 : Shape := ⟨2, ![6, 18432]⟩
abbrev S6x112x1 : Shape := ⟨3, ![6, 112, 1]⟩
abbrev S16x18432 : Shape := ⟨2, ![16, 18432]⟩
abbrev S6x18432x128 : Shape := ⟨3, ![6, 18432, 128]⟩
abbrev S672x18432 : Shape := ⟨2, ![672, 18432]⟩
abbrev S6x112x1536 : Shape := ⟨3, ![6, 112, 1536]⟩
abbrev S6x1536 : Shape := ⟨2, ![6, 1536]⟩
abbrev S16x1536 : Shape := ⟨2, ![16, 1536]⟩
abbrev S6x1536x128 : Shape := ⟨3, ![6, 1536, 128]⟩
abbrev S672x1536 : Shape := ⟨2, ![672, 1536]⟩
abbrev S1x112x1536 : Shape := ⟨3, ![1, 112, 1536]⟩
abbrev S112x1536 : Shape := ⟨2, ![112, 1536]⟩
abbrev S1x1536 : Shape := ⟨2, ![1, 1536]⟩
abbrev S1x112x1 : Shape := ⟨3, ![1, 112, 1]⟩
abbrev S112x1 : Shape := ⟨2, ![112, 1]⟩
abbrev S1536 : Shape := ⟨1, ![1536]⟩
abbrev S128x1536 : Shape := ⟨2, ![128, 1536]⟩
abbrev S128x128 : Shape := ⟨2, ![128, 128]⟩
abbrev S256x128 : Shape := ⟨2, ![256, 128]⟩
abbrev S1x256x128 : Shape := ⟨3, ![1, 256, 128]⟩

abbrev nBuf : Space → Nat
  | .hbm => 10
  | .vmem => 20
  | .smem => 0
  | _ => 0

abbrev bufTy : (tb : Table) → Fin (tcTables nBuf tb) → BufTy
  | .hbm, ⟨0, _⟩ => ⟨S6x112x18432, .fp8e4m3⟩
  | .hbm, ⟨1, _⟩ => ⟨S6x112x18432, .fp8e5m2⟩
  | .hbm, ⟨2, _⟩ => ⟨S6x18432, .f32⟩
  | .hbm, ⟨3, _⟩ => ⟨S6x18432, .f32⟩
  | .hbm, ⟨4, _⟩ => ⟨S6x112x1, .f32⟩
  | .hbm, ⟨5, _⟩ => ⟨S6x112x1, .f32⟩
  | .hbm, ⟨6, _⟩ => ⟨S16x18432, .f32⟩
  | .hbm, ⟨7, _⟩ => ⟨S6x18432x128, .bf16⟩
  | .hbm, ⟨8, _⟩ => ⟨S672x18432, .fp8e4m3⟩
  | .hbm, ⟨9, _⟩ => ⟨S672x18432, .fp8e5m2⟩
  | .local _ .vmem, ⟨0, _⟩ => ⟨S6x112x1536, .fp8e4m3⟩
  | .local _ .vmem, ⟨1, _⟩ => ⟨S6x112x1536, .fp8e4m3⟩
  | .local _ .vmem, ⟨2, _⟩ => ⟨S6x112x1536, .fp8e5m2⟩
  | .local _ .vmem, ⟨3, _⟩ => ⟨S6x112x1536, .fp8e5m2⟩
  | .local _ .vmem, ⟨4, _⟩ => ⟨S6x1536, .f32⟩
  | .local _ .vmem, ⟨5, _⟩ => ⟨S6x1536, .f32⟩
  | .local _ .vmem, ⟨6, _⟩ => ⟨S6x1536, .f32⟩
  | .local _ .vmem, ⟨7, _⟩ => ⟨S6x1536, .f32⟩
  | .local _ .vmem, ⟨8, _⟩ => ⟨S6x112x1, .f32⟩
  | .local _ .vmem, ⟨9, _⟩ => ⟨S6x112x1, .f32⟩
  | .local _ .vmem, ⟨10, _⟩ => ⟨S16x1536, .f32⟩
  | .local _ .vmem, ⟨11, _⟩ => ⟨S16x1536, .f32⟩
  | .local _ .vmem, ⟨12, _⟩ => ⟨S6x1536x128, .bf16⟩
  | .local _ .vmem, ⟨13, _⟩ => ⟨S6x1536x128, .bf16⟩
  | .local _ .vmem, ⟨14, _⟩ => ⟨S672x1536, .fp8e4m3⟩
  | .local _ .vmem, ⟨15, _⟩ => ⟨S672x1536, .fp8e4m3⟩
  | .local _ .vmem, ⟨16, _⟩ => ⟨S672x1536, .fp8e5m2⟩
  | .local _ .vmem, ⟨17, _⟩ => ⟨S672x1536, .fp8e5m2⟩
  | .local _ .vmem, ⟨18, _⟩ => ⟨S672x1536, .bf16⟩
  | .local _ .vmem, ⟨19, _⟩ => ⟨S672x1536, .bf16⟩
  | _, _ => ⟨S6x112x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x112x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x112x1536 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x112x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x112x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x1536x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S672x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S672x1536 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepIdeal.lean ====
variable {F : FTy → Type} [FloatOps F]
-- ==== PrepReferenceIdeal.lean ====
abbrev S6x112x18432 : Shape := ⟨3, ![6, 112, 18432]⟩
abbrev S6x18432 : Shape := ⟨2, ![6, 18432]⟩
abbrev S6x112x1 : Shape := ⟨3, ![6, 112, 1]⟩
abbrev S16x18432 : Shape := ⟨2, ![16, 18432]⟩
abbrev S6x18432x128 : Shape := ⟨3, ![6, 18432, 128]⟩
abbrev S672x18432 : Shape := ⟨2, ![672, 18432]⟩
abbrev S6x1x18432 : Shape := ⟨3, ![6, 1, 18432]⟩
abbrev S2x18432 : Shape := ⟨2, ![2, 18432]⟩
abbrev S6x16x18432 : Shape := ⟨3, ![6, 16, 18432]⟩
abbrev S6x128x18432 : Shape := ⟨3, ![6, 128, 18432]⟩
abbrev S6x2x64x72x2x128 : Shape := ⟨6, ![6, 2, 64, 72, 2, 128]⟩
abbrev S6x72x128x2x2x64 : Shape := ⟨6, ![6, 72, 128, 2, 2, 64]⟩

abbrev nBuf : Space → Nat
  | .hbm => 10
  | .vmem => 10
  | .smem => 0
  | _ => 0

abbrev bufTy : (tb : Table) → Fin (tcTables nBuf tb) → BufTy
  | .hbm, ⟨0, _⟩ => ⟨S6x112x18432, .fp8e4m3⟩
  | .hbm, ⟨1, _⟩ => ⟨S6x112x18432, .fp8e5m2⟩
  | .hbm, ⟨2, _⟩ => ⟨S6x18432, .f32⟩
  | .hbm, ⟨3, _⟩ => ⟨S6x18432, .f32⟩
  | .hbm, ⟨4, _⟩ => ⟨S6x112x1, .f32⟩
  | .hbm, ⟨5, _⟩ => ⟨S6x112x1, .f32⟩
  | .hbm, ⟨6, _⟩ => ⟨S16x18432, .f32⟩
  | .hbm, ⟨7, _⟩ => ⟨S6x18432x128, .bf16⟩
  | .hbm, ⟨8, _⟩ => ⟨S672x18432, .fp8e4m3⟩
  | .hbm, ⟨9, _⟩ => ⟨S672x18432, .fp8e5m2⟩
  | .local _ .vmem, ⟨0, _⟩ => ⟨S6x112x18432, .fp8e4m3⟩
  | .local _ .vmem, ⟨1, _⟩ => ⟨S6x112x18432, .fp8e5m2⟩
  | .local _ .vmem, ⟨2, _⟩ => ⟨S6x18432, .f32⟩
  | .local _ .vmem, ⟨3, _⟩ => ⟨S6x18432, .f32⟩
  | .local _ .vmem, ⟨4, _⟩ => ⟨S6x112x1, .f32⟩
  | .local _ .vmem, ⟨5, _⟩ => ⟨S6x112x1, .f32⟩
  | .local _ .vmem, ⟨6, _⟩ => ⟨S16x18432, .f32⟩
  | .local _ .vmem, ⟨7, _⟩ => ⟨S6x18432x128, .bf16⟩
  | .local _ .vmem, ⟨8, _⟩ => ⟨S672x18432, .fp8e4m3⟩
  | .local _ .vmem, ⟨9, _⟩ => ⟨S672x18432, .fp8e5m2⟩
  | _, _ => ⟨S6x112x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x112x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x112x18432 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x112x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x112x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x18432x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S672x18432 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S672x18432 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Quant.lean ====
/- The quantiser's exponent: what the kernel's search for the exponent field finds, and that the two powers of two it builds
   from that field are the reference's `exp2` of a rounded-down logarithm. -/
module

public import Idealize.ShloMosaic.PureOps
public import Idealize.ShloMosaic.PureOps.Ideal.Laws
public import Mathlib.Analysis.SpecialFunctions.Log.Basic
public import Mathlib.Algebra.Order.Archimedean.Basic

@[expose] public section

set_option maxRecDepth 16384

noncomputable section

namespace Cert.Quant

open Idealize.ShloMosaic

/-! ## The scalar functions of the two programs, at any float values -/

section Any
variable {F : FTy → Type} [FloatOps F]

/-- One step of the search: keep the bit when the test passes. -/
def stp (p : BitVec 32 → BitVec 1) (b bit : BitVec 32) : BitVec 32 := Scalar.select (p (IntOp.addi b bit)) (IntOp.addi b bit) b

/-- The search, from the top bit of the field down. -/
def search (p : BitVec 32 → BitVec 1) : BitVec 32 :=
  stp p (stp p (stp p (stp p (stp p (stp p (stp p (stp p 0#32 128#32) 64#32) 32#32) 16#32) 8#32) 4#32) 2#32) 1#32

/-- The test: the power of two with this exponent field is at most `x`. -/
def test (x : F .f32) (k : BitVec 32) : BitVec 1 := FloatOps.cmpf .ole (FloatOps.ofBits .f32 (IntOp.shli .vector k 23#32)) x

/-- The exponent of the row's scale: zero at a zero field, else the field less 126. -/
def expo (b : BitVec 32) : BitVec 32 := Scalar.select (IntOp.cmpi .eq b 0#32) 0#32 (IntOp.subi b 126#32)

/-- The kernel's scale of a row whose quotient is `x`. -/
def kScale (x : F .f32) : F .f32 := FloatOps.ofBits .f32 (IntOp.shli .vector (IntOp.addi (expo (search (test x))) 127#32) 23#32)

/-- The kernel's inverse scale. -/
def kInv (x : F .f32) : F .f32 := FloatOps.ofBits .f32 (IntOp.shli .vector (IntOp.subi 127#32 (expo (search (test x)))) 23#32)

/-- The quotient of a row's absolute maximum by the format's largest finite value. -/
def quo (a : F .f32) : F .f32 := FloatOps.mulf a (Scalar.ofBits .f32 0x37924925#32)

/-- The reference's exponent of a row whose absolute maximum is `a`. -/
def rExpo (a : F .f32) : F .f32 :=
  Scalar.select (FloatOps.cmpf .oeq a (Scalar.ofBits .f32 0x00000000#32)) (Scalar.ofBits .f32 0x00000000#32)
    (FloatOps.addf (FloatOps.floor (FloatOps.divf (FloatOps.log (quo a)) (FloatOps.log (Scalar.ofBits .f32 0x40000000#32))))
      (Scalar.ofBits .f32 0x3F800000#32))

/-- The reference's scale. -/
def rScale (a : F .f32) : F .f32 := FloatOps.exp2 (rExpo a)

/-- The reference's inverse scale. -/
def rInv (a : F .f32) : F .f32 := FloatOps.exp2 (FloatOps.subf (Scalar.ofBits .f32 0x00000000#32) (rExpo a))
end Any

/-! ## The search -/

/-- A step is monotone in its bound: it adds at most the bit. -/
theorem stp_le (p : BitVec 32 → BitVec 1) (b bit : BitVec 32) (m k : ℕ) (hb : b.toNat ≤ m) (hk : bit.toNat = k) (hm : m + k < 2 ^ 32) :
    (stp p b bit).toNat ≤ m + k := by
  unfold stp Scalar.select
  split
  · show (b + bit).toNat ≤ m + k
    rw [BitVec.toNat_add]; exact (Nat.mod_le _ _).trans (by omega)
  · omega

/-- Two tests that agree below 256 take the same step from a number whose sum with the bit is below 256. -/
theorem stp_congr (p q : BitVec 32 → BitVec 1) (h : ∀ k : BitVec 32, k.toNat < 256 → p k = q k) (b bit : BitVec 32) (m k : ℕ)
    (hb : b.toNat ≤ m) (hk : bit.toNat = k) (hm : m + k < 256) : stp p b bit = stp q b bit := by
  unfold stp
  rw [h]
  show (b + bit).toNat < 256
  rw [BitVec.toNat_add]; exact lt_of_le_of_lt (Nat.mod_le _ _) (by omega)

/-- Two tests that agree below 256 have the same search. -/
theorem search_congr (p q : BitVec 32 → BitVec 1) (h : ∀ k : BitVec 32, k.toNat < 256 → p k = q k) : search p = search q := by
  have b1 := stp_le q 0#32 128#32 0 128 (by decide) (by decide) (by decide)
  have b2 := stp_le q _ 64#32 _ 64 b1 (by decide) (by decide)
  have b3 := stp_le q _ 32#32 _ 32 b2 (by decide) (by decide)
  have b4 := stp_le q _ 16#32 _ 16 b3 (by decide) (by decide)
  have b5 := stp_le q _ 8#32 _ 8 b4 (by decide) (by decide)
  have b6 := stp_le q _ 4#32 _ 4 b5 (by decide) (by decide)
  have b7 := stp_le q _ 2#32 _ 2 b6 (by decide) (by decide)
  unfold search
  rw [stp_congr p q h 0#32 128#32 0 128 (by decide) (by decide) (by decide), stp_congr p q h _ 64#32 _ 64 b1 (by decide) (by decide),
    stp_congr p q h _ 32#32 _ 32 b2 (by decide) (by decide), stp_congr p q h _ 16#32 _ 16 b3 (by decide) (by decide),
    stp_congr p q h _ 8#32 _ 8 b4 (by decide) (by decide), stp_congr p q h _ 4#32 _ 4 b5 (by decide) (by decide),
    stp_congr p q h _ 2#32 _ 2 b6 (by decide) (by decide), stp_congr p q h _ 1#32 _ 1 b7 (by decide) (by decide)]

/-- The search for the largest number at most `n` finds `n`. -/
theorem search_le : ∀ n : Fin 256, search (fun k => BitVec.ofBool (decide (k.toNat ≤ n.val))) = BitVec.ofNat 32 n.val := by
  decide +kernel

/-- A test that passes below 256 exactly up to `n` is searched to `n`. -/
theorem search_eq (p : BitVec 32 → BitVec 1) (n : ℕ) (hn : n < 256)
    (h : ∀ k : ℕ, k < 256 → p (BitVec.ofNat 32 k) = BitVec.ofBool (decide (k ≤ n))) : search p = BitVec.ofNat 32 n := by
  rw [search_congr p (fun k => BitVec.ofBool (decide (k.toNat ≤ n))) fun k hk => ?_]
  · exact search_le ⟨n, hn⟩
  · rw [← h k.toNat hk, BitVec.ofNat_toNat, BitVec.setWidth_eq]

/-! ## The powers of two built from an exponent field -/

/-- The float whose exponent field is `k` and whose other bits are zero. -/
def pw (k : ℕ) : EReal := Ideal.ofBits .f32 (BitVec.ofNat 32 k <<< 23)

theorem fields : ∀ k : Fin 256, ((BitVec.ofNat 32 k.val <<< 23 : BitVec 32).extractLsb' 31 1 == 1#1) = false
    ∧ ((BitVec.ofNat 32 k.val <<< 23 : BitVec 32).extractLsb' 23 8).toNat = k.val
    ∧ ((BitVec.ofNat 32 k.val <<< 23 : BitVec 32).extractLsb' 0 23).toNat = 0 := by decide +kernel

theorem pw_normal (k : ℕ) (h1 : 1 ≤ k) (h2 : k ≤ 254) : pw k = (((2 : ℝ) ^ ((k : ℤ) - 127) : ℝ) : EReal) := by
  obtain ⟨f1, f2, f3⟩ := fields ⟨k, by omega⟩
  dsimp only at f1 f2 f3
  unfold pw Ideal.ofBits Ideal.ieee
  dsimp only
  rw [show (8 + 23 : ℕ) = 31 from rfl, f1, f2, f3]
  rw [if_neg (by omega), if_neg (by omega)]
  refine congrArg Real.toEReal ?_
  have e : ((k : ℤ) - 127) = 23 + ((k : ℤ) - (2 ^ (8 - 1) - 1) - (23 : ℕ)) := by push_cast; ring
  rw [e, zpow_add₀ (by norm_num)]
  norm_num

theorem pw_zero : pw 0 = 0 := by
  unfold pw; exact Ideal.ofBits_zero_f32

theorem pw_top : pw 255 = ⊤ := by
  obtain ⟨f1, f2, f3⟩ := fields ⟨255, by omega⟩
  dsimp only at f1 f2 f3
  unfold pw Ideal.ofBits Ideal.ieee
  dsimp only
  rw [show (8 + 23 : ℕ) = 31 from rfl, f1, f2, f3]
  norm_num

/-- A shift by 23 stays inside the word. -/
theorem shl (k : BitVec 32) : IntOp.shli .vector k 23#32 = k <<< 23 := rfl

/-- At a zero quotient the field found is zero. -/
theorem field_zero : search (test (F := Ideal) (0 : EReal)) = BitVec.ofNat 32 0 := by
  refine search_eq _ 0 (by decide) fun k hk => ?_
  show BitVec.ofBool (decide (Ideal.ofBits .f32 (IntOp.shli .vector (BitVec.ofNat 32 k) 23#32) ≤ 0)) = _
  rw [shl]
  congr 1
  refine decide_eq_decide.mpr ?_
  show pw k ≤ 0 ↔ _
  rcases Nat.eq_zero_or_pos k with rfl | h0
  · rw [pw_zero]; simp
  · rcases Nat.lt_or_ge k 255 with h | h
    · rw [pw_normal k h0 (by omega)]
      have : (0 : ℝ) < (2 : ℝ) ^ ((k : ℤ) - 127) := by positivity
      constructor
      · intro h'; exact absurd (EReal.coe_le_coe_iff.mp h') (not_le.mpr this)
      · intro h'; omega
    · obtain rfl : k = 255 := by omega
      rw [pw_top]; simp

/-- At a quotient `r` of the normal range the field found is the exponent of `r` biased by 127. -/
theorem field_real (r : ℝ) (n : ℕ) (h1 : 1 ≤ n) (h2 : n ≤ 253) (hl : (2 : ℝ) ^ ((n : ℤ) - 127) ≤ r) (hu : r < (2 : ℝ) ^ ((n : ℤ) - 126)) :
    search (test (F := Ideal) (r : EReal)) = BitVec.ofNat 32 n := by
  refine search_eq _ n (by omega) fun k hk => ?_
  show BitVec.ofBool (decide (Ideal.ofBits .f32 (IntOp.shli .vector (BitVec.ofNat 32 k) 23#32) ≤ (r : EReal))) = _
  rw [shl]
  congr 1
  refine decide_eq_decide.mpr ?_
  show pw k ≤ _ ↔ _
  rcases Nat.eq_zero_or_pos k with rfl | h0
  · rw [pw_zero]
    have : (0 : ℝ) < (2 : ℝ) ^ ((n : ℤ) - 127) := by positivity
    exact ⟨fun _ => by omega, fun _ => by exact_mod_cast (this.le.trans hl)⟩
  · rcases Nat.lt_or_ge k 255 with h | h
    · rw [pw_normal k h0 (by omega), EReal.coe_le_coe_iff]
      constructor
      · intro h'
        have := (zpow_lt_zpow_iff_right₀ (by norm_num : (1 : ℝ) < 2)).mp (h'.trans_lt hu)
        omega
      · intro h'
        exact le_trans (zpow_le_zpow_right₀ (by norm_num) (by omega)) hl
    · obtain rfl : k = 255 := by omega
      rw [pw_top, top_le_iff]
      exact ⟨fun h' => absurd h' (EReal.coe_ne_top r), fun h' => by omega⟩

theorem words : ∀ n : Fin 254, 1 ≤ n.val →
    IntOp.addi (expo (BitVec.ofNat 32 n.val)) 127#32 = BitVec.ofNat 32 (n.val + 1)
    ∧ IntOp.subi 127#32 (expo (BitVec.ofNat 32 n.val)) = BitVec.ofNat 32 (253 - n.val) := by decide +kernel

/-! ## The two quantisers agree -/

theorem two_bits : (Ideal.ofBits .f32 0x40000000#32 : EReal) = ((2 : ℝ) : EReal) := by
  have := pw_normal 128 (by norm_num) (by norm_num)
  rw [show (0x40000000#32 : BitVec 32) = BitVec.ofNat 32 128 <<< 23 from by decide]
  refine this.trans ?_
  norm_num

theorem one_bits : (Ideal.ofBits .f32 0x3F800000#32 : EReal) = ((1 : ℝ) : EReal) := by
  have := pw_normal 127 (by norm_num) (by norm_num)
  rw [show (0x3F800000#32 : BitVec 32) = BitVec.ofNat 32 127 <<< 23 from by decide]
  refine this.trans ?_
  norm_num

theorem lo_bits : (Ideal.ofBits .f32 0x00800000#32 : EReal) = (((2 : ℝ) ^ (-126 : ℤ) : ℝ) : EReal) := by
  have := pw_normal 1 (by norm_num) (by norm_num)
  rw [show (0x00800000#32 : BitVec 32) = BitVec.ofNat 32 1 <<< 23 from by decide]
  exact this.trans (by norm_num)

theorem hi_bits : (Ideal.ofBits .f32 0x7E800000#32 : EReal) = (((2 : ℝ) ^ (126 : ℤ) : ℝ) : EReal) := by
  have := pw_normal 253 (by norm_num) (by norm_num)
  rw [show (0x7E800000#32 : BitVec 32) = BitVec.ofNat 32 253 <<< 23 from by decide]
  exact this.trans (by norm_num)

/-- A row is in range: its absolute maximum is zero, or its quotient lies in the normal range. -/
def InRange (a : EReal) : Prop :=
  a = 0 ∨ ((((2 : ℝ) ^ (-126 : ℤ) : ℝ) : EReal) ≤ quo (F := Ideal) a ∧ quo (F := Ideal) a < (((2 : ℝ) ^ (126 : ℤ) : ℝ) : EReal))

/-- The rounded-down base-2 logarithm of a real between two consecutive powers of two. -/
theorem floor_log (r : ℝ) (l : ℤ) (h1 : (2 : ℝ) ^ l ≤ r) (h2 : r < (2 : ℝ) ^ (l + 1)) : ⌊Real.log r * (Real.log 2)⁻¹⌋ = l := by
  have hp : (0 : ℝ) < (2 : ℝ) ^ l := by positivity
  have hl : 0 < Real.log 2 := Real.log_pos (by norm_num)
  rw [Int.floor_eq_iff, ← div_eq_mul_inv, le_div_iff₀ hl, div_lt_iff₀ hl]
  have g1 := Real.log_le_log hp h1
  have g2 := Real.log_lt_log (hp.trans_le h1) h2
  rw [Real.log_zpow] at g1 g2
  push_cast at g2
  exact ⟨g1, g2⟩

/-- The exponent of the reference at a nonzero maximum with a real quotient. -/
theorem rExpo_real (a : EReal) (ha : a ≠ 0) (r : ℝ) (l : ℤ) (h1 : (2 : ℝ) ^ l ≤ r) (h2 : r < (2 : ℝ) ^ (l + 1))
    (hq : quo (F := Ideal) a = (r : EReal)) : rExpo (F := Ideal) a = (((l + 1 : ℤ) : ℝ) : EReal) := by
  have hr : 0 < r := lt_of_lt_of_le (by positivity) h1
  unfold rExpo
  have hc : FloatOps.cmpf (F := Ideal) (φ := .f32) .oeq a (Scalar.ofBits .f32 0x00000000#32) = 0#1 := by
    show BitVec.ofBool (decide (a = Ideal.ofBits .f32 0x00000000#32)) = _
    rw [Ideal.ofBits_zero_f32, decide_eq_false ha]; rfl
  rw [hc, hq]
  show Ideal.liftRound Int.floor (Ideal.div (Ideal.log (r : EReal)) (Ideal.log (Ideal.ofBits .f32 0x40000000#32))) + Ideal.ofBits .f32 0x3F800000#32 = _
  rw [two_bits, one_bits, Ideal.log_coe, Ideal.log_coe, if_neg (not_le.mpr hr), if_neg (by norm_num)]
  have h0 : Real.log 2 ≠ 0 := (Real.log_pos (by norm_num)).ne'
  rw [Ideal.div, if_neg (by exact_mod_cast h0), ← EReal.coe_inv, ← EReal.coe_mul, Ideal.liftRound_coe, ← EReal.coe_add]
  rw [floor_log r l h1 h2]
  push_cast
  rfl

/-- THE QUANTISERS AGREE: on a row in range the kernel's scale and inverse scale, built from the searched exponent field, are
    the reference's, built by `exp2` from the rounded-down logarithm. -/
theorem scales_eq (a : EReal) (h : InRange a) :
    kScale (F := Ideal) (quo (F := Ideal) a) = rScale (F := Ideal) a ∧ kInv (F := Ideal) (quo (F := Ideal) a) = rInv (F := Ideal) a := by
  by_cases ha : a = 0
  · subst ha
    have hq : quo (F := Ideal) (0 : EReal) = (0 : EReal) := by
      show (0 : EReal) * _ = 0
      exact zero_mul _
    have he : rExpo (F := Ideal) (0 : EReal) = (0 : EReal) := by
      unfold rExpo
      have hc : FloatOps.cmpf (F := Ideal) (φ := .f32) .oeq (0 : EReal) (Scalar.ofBits .f32 0x00000000#32) = 1#1 := by
        show BitVec.ofBool (decide ((0 : EReal) = Ideal.ofBits .f32 0x00000000#32)) = _
        rw [Ideal.ofBits_zero_f32, decide_eq_true rfl]; rfl
      rw [hc]
      exact Ideal.ofBits_zero_f32
    unfold kScale kInv rScale rInv
    rw [hq, field_zero, he]
    have hz : (Scalar.ofBits (F := Ideal) .f32 0x00000000#32 : EReal) = 0 := Ideal.ofBits_zero_f32
    have h1 : (Ideal.ofBits .f32 (BitVec.ofNat 32 127 <<< 23) : EReal) = ((1 : ℝ) : EReal) :=
      (pw_normal 127 (by norm_num) (by norm_num)).trans (by norm_num)
    have hx : Ideal.exp2 (0 : EReal) = ((1 : ℝ) : EReal) := by
      rw [← EReal.coe_zero, Ideal.exp2_coe]; simp
    constructor
    · exact h1.trans hx.symm
    · show _ = Ideal.exp2 (Scalar.ofBits (F := Ideal) .f32 0x00000000#32 - 0)
      rw [hz, sub_zero, hx]; exact h1
  · obtain h | ⟨hl, hu⟩ := h
    · exact absurd h ha
    · have hpos : (0 : ℝ) < (2 : ℝ) ^ (-126 : ℤ) := by positivity
      induction hq : (quo (F := Ideal) a : EReal) using EReal.rec with
      | bot => rw [hq] at hl; simp at hl
      | top => rw [hq] at hu; simp at hu
      | coe r =>
        rw [hq, EReal.coe_le_coe_iff] at hl
        rw [hq, EReal.coe_lt_coe_iff] at hu
        have hr : 0 < r := hpos.trans_le hl
        obtain ⟨l, g1, g2⟩ := exists_mem_Ico_zpow hr (by norm_num : (1 : ℝ) < 2)
        have l1 : (-126 : ℤ) < l + 1 := (zpow_lt_zpow_iff_right₀ (by norm_num : (1 : ℝ) < 2)).mp (hl.trans_lt g2)
        have l2 : l < (126 : ℤ) := (zpow_lt_zpow_iff_right₀ (by norm_num : (1 : ℝ) < 2)).mp (g1.trans_lt hu)
        obtain ⟨n, hn⟩ : ∃ n : ℕ, (n : ℤ) = l + 127 := ⟨(l + 127).toNat, by omega⟩
        have hf := field_real r n (by omega) (by omega) (by rw [show (n : ℤ) - 127 = l by omega]; exact g1)
          (by rw [show (n : ℤ) - 126 = l + 1 by omega]; exact g2)
        have he := rExpo_real a ha r l g1 g2 hq
        obtain ⟨w1, w2⟩ := words ⟨n, by omega⟩ (by show 1 ≤ n; omega)
        dsimp only at w1 w2
        unfold kScale kInv rScale rInv
        rw [hf, he, w1, w2, shl, shl]
        have p1 := pw_normal (n + 1) (by omega) (by omega)
        have p2 := pw_normal (253 - n) (by omega) (by omega)
        constructor
        · refine Eq.trans p1 ?_
          show _ = Ideal.exp2 _
          rw [Ideal.exp2_coe]
          congr 1
          show _ = (2 : ℝ) ^ (((l + 1 : ℤ) : ℝ))
          rw [Real.rpow_intCast]
          congr 1; push_cast; omega
        · refine Eq.trans p2 ?_
          show _ = Ideal.exp2 (Ideal.ofBits .f32 0x00000000#32 - _)
          rw [Ideal.ofBits_zero_f32, zero_sub, ← EReal.coe_neg, Ideal.exp2_coe]
          congr 1
          show _ = (2 : ℝ) ^ (-((l + 1 : ℤ) : ℝ))
          rw [← Int.cast_neg, Real.rpow_intCast]
          congr 1; omega

end Cert.Quant

end
-- ==== Proof.Heads.lean ====
/- The quantiser of each head: the text of the kernel's body writes the six heads out one by one, and each head's stored values
   are the same functions of that head's rows. -/
module

public import proofs.«01_k».proof.Proof.Gen.KernelIdeal.Skeleton
public import proofs.«01_k».proof.Proof.Quant

@[expose] public section

set_option maxRecDepth 16384

noncomputable section

namespace Cert.KernelIdeal.Heads

open Cert.KernelIdeal Cert.KernelIdeal.Gen Idealize.ShloMosaic

variable {F : FTy → Type} [FloatOps F]

/-- One step of the search for the exponent field, for every node at once. -/
def vstep (q : FVec F S1x1536 .f32) (b : IVec S1x1536 32) (bit : BitVec 32) : IVec S1x1536 32 :=
  select (cmpf .ole (bitcastToFloat .f32 (shli (addi b (broadcast S1x1536 bit)) (broadcast S1x1536 23#32))) q) (addi b (broadcast S1x1536 bit)) b

/-- The search, for every node at once. -/
def vsearch (q : FVec F S1x1536 .f32) : IVec S1x1536 32 :=
  vstep q (vstep q (vstep q (vstep q (vstep q (vstep q (vstep q (vstep q (broadcast S1x1536 0#32) 128#32) 64#32) 32#32) 16#32) 8#32) 4#32) 2#32) 1#32

/-- A step at one node is a step of that node's search. -/
theorem vstep_apply (q : FVec F S1x1536 .f32) (b : IVec S1x1536 32) (bit : BitVec 32) (i : S1x1536.Idx) :
    vstep q b bit i = Quant.stp (Quant.test (q i)) (b i) bit := rfl

/-- The search at one node is that node's search. -/
theorem vsearch_apply (q : FVec F S1x1536 .f32) (i : S1x1536.Idx) : vsearch q i = Quant.search (Quant.test (q i)) := by
  unfold vsearch Quant.search
  simp only [vstep_apply]
  rfl

/-- A head's `1 x nodes` row of scales. -/
def scaleV (A B : Vec F S1x1536 .f32) (X : Vec F S1x1536x128 .f32) (P Q : Vec F S1x112x1 .f32) : FVec F S1x1536 .f32 :=
  k0_pay25 (vsearch (k0_pay20 A B X P Q)) 0#32

/-- A head's rows of codes. -/
def codeV (A B : Vec F S1x1536 .f32) (X : Vec F S1x1536x128 .f32) (P Q : Vec F S1x112x1 .f32) : FVec F S112x1536 .bf16 :=
  k0_pay27 (k0_pay19 A B X P Q) (vsearch (k0_pay20 A B X P Q)) 0#32

/-- A head's rows of quantised values: code times scale. -/
def dbV (A B : Vec F S1x1536 .f32) (X : Vec F S1x1536x128 .f32) (P Q : Vec F S1x112x1 .f32) : FVec F S112x1536 .bf16 :=
  k0_pay28 (k0_pay19 A B X P Q) (vsearch (k0_pay20 A B X P Q)) 0#32

variable (A B : Vec F S1x1536 .f32) (X : Vec F S1x1536x128 .f32) (P Q : Vec F S1x112x1 .f32)

/-- What the body stores as head 5's codes. -/
theorem code_5 : k0_pay82 (k0_pay72 A B (k0_pay71 X) P Q) (k0_pay79 (k0_pay73 A B (k0_pay71 X) P Q) (k0_pay74 A B (k0_pay71 X) P Q) (k0_pay75 A B (k0_pay71 X) P Q) (k0_pay76 A B (k0_pay71 X) P Q)) k0_pay80 = codeV A B X P Q := rfl

/-- What the body stores as head 4's codes. -/
theorem code_4 : k0_pay69 (k0_pay58 A B X P Q) (k0_pay63 (k0_pay59 A B X P Q) (k0_pay60 A B X P Q) (k0_pay61 A B X P Q) (k0_pay62 A B X P Q)) (k0_pay64 (k0_pay59 A B X P Q) (k0_pay60 A B X P Q) (k0_pay61 A B X P Q) (k0_pay62 A B X P Q)) k0_pay65 = codeV A B X P Q := rfl

/-- What the body stores as head 3's codes. -/
theorem code_3 : k0_pay56 (k0_pay47 A B X P Q) (k0_pay48 A B X P Q) (k0_pay50 (k0_pay48 A B X P Q) k0_pay49 128#32) (k0_pay51 (k0_pay48 A B X P Q) k0_pay49 128#32) (k0_pay52 (k0_pay48 A B X P Q) k0_pay49 128#32) = codeV A B X P Q := rfl

/-- What the body stores as head 2's codes. -/
theorem code_2 : k0_pay45 (k0_pay44 (k0_pay39 B (k0_pay38 A X P) Q) (k0_pay40 B (k0_pay38 A X P) Q) (k0_pay41 B (k0_pay38 A X P) Q)) = codeV A B X P Q := rfl

/-- What the body stores as head 1's codes. -/
theorem code_1 : k0_pay36 (k0_pay29 A B X P Q) (k0_pay33 (k0_pay30 A B X P Q) (k0_pay31 A B X P Q) k0_pay32) 127#32 = codeV A B X P Q := rfl

/-- What the body stores as head 0's codes. -/
theorem code_0 : k0_pay27 (k0_pay19 A B X P Q) (k0_pay23 (k0_pay20 A B X P Q) (k0_pay21 A B X P Q) (k0_pay22 A B X P Q) 23#32) 0#32 = codeV A B X P Q := rfl

/-- What the body stores as head 5's quantised values. -/
theorem db_5 : k0_pay83 (k0_pay72 A B (k0_pay71 X) P Q) (k0_pay78 (k0_pay73 A B (k0_pay71 X) P Q) (k0_pay74 A B (k0_pay71 X) P Q) (k0_pay75 A B (k0_pay71 X) P Q) (k0_pay76 A B (k0_pay71 X) P Q)) (k0_pay79 (k0_pay73 A B (k0_pay71 X) P Q) (k0_pay74 A B (k0_pay71 X) P Q) (k0_pay75 A B (k0_pay71 X) P Q) (k0_pay76 A B (k0_pay71 X) P Q)) k0_pay80 = dbV A B X P Q := rfl

/-- What the body stores as head 4's quantised values. -/
theorem db_4 : k0_pay70 (k0_pay58 A B X P Q) (k0_pay63 (k0_pay59 A B X P Q) (k0_pay60 A B X P Q) (k0_pay61 A B X P Q) (k0_pay62 A B X P Q)) (k0_pay64 (k0_pay59 A B X P Q) (k0_pay60 A B X P Q) (k0_pay61 A B X P Q) (k0_pay62 A B X P Q)) k0_pay65 = dbV A B X P Q := rfl

/-- What the body stores as head 3's quantised values. -/
theorem db_3 : k0_pay57 (k0_pay47 A B X P Q) (k0_pay48 A B X P Q) (k0_pay50 (k0_pay48 A B X P Q) k0_pay49 128#32) (k0_pay51 (k0_pay48 A B X P Q) k0_pay49 128#32) (k0_pay52 (k0_pay48 A B X P Q) k0_pay49 128#32) = dbV A B X P Q := rfl

/-- What the body stores as head 2's quantised values. -/
theorem db_2 : k0_pay46 (k0_pay43 (k0_pay40 B (k0_pay38 A X P) Q) (k0_pay41 B (k0_pay38 A X P) Q)) (k0_pay44 (k0_pay39 B (k0_pay38 A X P) Q) (k0_pay40 B (k0_pay38 A X P) Q) (k0_pay41 B (k0_pay38 A X P) Q)) = dbV A B X P Q := rfl

/-- What the body stores as head 1's quantised values. -/
theorem db_1 : k0_pay37 (k0_pay29 A B X P Q) (k0_pay33 (k0_pay30 A B X P Q) (k0_pay31 A B X P Q) k0_pay32) (k0_pay34 (k0_pay30 A B X P Q) (k0_pay31 A B X P Q) k0_pay32) 127#32 = dbV A B X P Q := rfl

/-- What the body stores as head 0's quantised values. -/
theorem db_0 : k0_pay28 (k0_pay19 A B X P Q) (k0_pay23 (k0_pay20 A B X P Q) (k0_pay21 A B X P Q) (k0_pay22 A B X P Q) 23#32) 0#32 = dbV A B X P Q := rfl

/-- What the body stores as head 5's scales. -/
theorem scale_5 : (k0_pay78 (k0_pay73 A B (k0_pay71 X) P Q) (k0_pay74 A B (k0_pay71 X) P Q) (k0_pay75 A B (k0_pay71 X) P Q) (k0_pay76 A B (k0_pay71 X) P Q)) = scaleV A B X P Q := rfl

/-- What the body stores as head 4's scales. -/
theorem scale_4 : k0_pay67 (k0_pay63 (k0_pay59 A B X P Q) (k0_pay60 A B X P Q) (k0_pay61 A B X P Q) (k0_pay62 A B X P Q)) (k0_pay64 (k0_pay59 A B X P Q) (k0_pay60 A B X P Q) (k0_pay61 A B X P Q) (k0_pay62 A B X P Q)) k0_pay65 = scaleV A B X P Q := rfl

/-- What the body stores as head 3's scales. -/
theorem scale_3 : (k0_pay54 (k0_pay48 A B X P Q) (k0_pay50 (k0_pay48 A B X P Q) k0_pay49 128#32) (k0_pay51 (k0_pay48 A B X P Q) k0_pay49 128#32) (k0_pay52 (k0_pay48 A B X P Q) k0_pay49 128#32)) = scaleV A B X P Q := rfl

/-- What the body stores as head 2's scales. -/
theorem scale_2 : (k0_pay43 (k0_pay40 B (k0_pay38 A X P) Q) (k0_pay41 B (k0_pay38 A X P) Q)) = scaleV A B X P Q := rfl

/-- What the body stores as head 1's scales. -/
theorem scale_1 : (k0_pay34 (k0_pay30 A B X P Q) (k0_pay31 A B X P Q) k0_pay32) = scaleV A B X P Q := rfl

/-- What the body stores as head 0's scales. -/
theorem scale_0 : k0_pay25 (k0_pay23 (k0_pay20 A B X P Q) (k0_pay21 A B X P Q) (k0_pay22 A B X P Q) 23#32) 0#32 = scaleV A B X P Q := rfl

end Cert.KernelIdeal.Heads

end
-- ==== Proof.Spec.lean ====
/- The quantised values of one node's head, over the extended reals: as functions of the head's row of 112 values at that node. -/
module

public import proofs.«01_k».proof.Proof.Quant

@[expose] public section

noncomputable section

namespace Cert.Spec

open Idealize.ShloMosaic

/-- The gradient of one element: the aggregated value and the two outer products' values, added from the left. -/
def dh (g as asv ad adv : EReal) : EReal := g + as * asv + ad * adv

/-- The largest absolute value of a row. -/
def amx (d : Fin 112 → EReal) : EReal :=
  Finset.univ.fold max (Ideal.ofBits .f32 0xFF800000#32) fun f => FloatOps.absf (F := Ideal) (φ := .f32) (d f)

/-- The clip to the format's finite range. -/
def clip (x : EReal) : EReal := min (Ideal.ofBits .f32 0x47600000#32) (max (Ideal.ofBits .f32 0xC7600000#32) x)

/-- The kernel's scale of a row. -/
def kscale (d : Fin 112 → EReal) : EReal := Quant.kScale (F := Ideal) (Quant.quo (F := Ideal) (amx d))
/-- The kernel's code of element `f` of a row. -/
def kcode (d : Fin 112 → EReal) (f : Fin 112) : EReal := clip (d f * Quant.kInv (F := Ideal) (Quant.quo (F := Ideal) (amx d)))
/-- The reference's scale of a row. -/
def rscale (d : Fin 112 → EReal) : EReal := Quant.rScale (F := Ideal) (amx d)
/-- The reference's code of element `f` of a row. -/
def rcode (d : Fin 112 → EReal) (f : Fin 112) : EReal := clip (d f * Quant.rInv (F := Ideal) (amx d))

/-- On a row in range the two scales agree. -/
theorem scale_eq (d : Fin 112 → EReal) (h : Quant.InRange (amx d)) : kscale d = rscale d := (Quant.scales_eq _ h).1
/-- On a row in range the two codes agree. -/
theorem code_eq (d : Fin 112 → EReal) (h : Quant.InRange (amx d)) (f : Fin 112) : kcode d f = rcode d f :=
  congrArg (fun x : EReal => clip (d f * x)) (Quant.scales_eq _ h).2

end Cert.Spec

end
-- ==== Proof.HeadValue.lean ====
/- A head's stored values at one element, over the extended reals. -/
module

public import proofs.«01_k».proof.Proof.Heads
public import proofs.«01_k».proof.Proof.Spec
public import Idealize.ShloMosaic.Lib.Pointwise

@[expose] public section

set_option maxRecDepth 16384

noncomputable section

namespace Cert.KernelIdeal.Heads

open Cert.KernelIdeal Cert.KernelIdeal.Gen Idealize.ShloMosaic

variable (A B : Vec Ideal S1x1536 .f32) (X : Vec Ideal S1x1536x128 .f32) (P Q : Vec Ideal S1x112x1 .f32)

/-- The head's row at node `s`. -/
def row (s : Fin 1536) (f : Fin 112) : EReal :=
  Spec.dh (X (ix3 0 s ⟨f.val, by omega⟩)) (A (ix2 0 s)) (P (ix3 0 f 0)) (B (ix2 0 s)) (Q (ix3 0 f 0))

theorem dhV_apply (f : Fin 112) (s : Fin 1536) : k0_pay19 A B X P Q (ix2 f s) = row A B X P Q s f := by
  unfold row Spec.dh
  pointwise [k0_pay19]

theorem quoV_apply (s : Fin 1536) : k0_pay20 A B X P Q (ix2 0 s) = Quant.quo (F := Ideal) (Spec.amx (row A B X P Q s)) := by
  unfold Spec.amx
  simp only [← dhV_apply]
  pointwise [k0_pay20]
  rfl

/-- A head's scale at node `s`. -/
theorem scaleV_apply (s : Fin 1536) : scaleV A B X P Q (ix2 0 s) = Spec.kscale (row A B X P Q s) := by
  unfold scaleV Spec.kscale
  rw [← quoV_apply]
  generalize k0_pay20 A B X P Q = q
  rw [show Quant.kScale (q (ix2 0 s)) = FloatOps.ofBits .f32 (IntOp.shli .vector (IntOp.addi (Quant.expo (vsearch q (ix2 0 s))) 127#32) 23#32) by rw [vsearch_apply]; rfl]
  rfl

/-- A head's code of element `f` at node `s`. -/
theorem codeV_apply (f : Fin 112) (s : Fin 1536) : codeV A B X P Q (ix2 f s) = Spec.kcode (row A B X P Q s) f := by
  unfold codeV Spec.kcode Quant.kInv
  rw [← quoV_apply, ← vsearch_apply, ← dhV_apply]
  pointwise [k0_pay27, k0_pay26, k0_pay24]
  rfl

/-- A head's quantised value of element `f` at node `s`. -/
theorem dbV_apply (f : Fin 112) (s : Fin 1536) :
    dbV A B X P Q (ix2 f s) = Spec.kcode (row A B X P Q s) f * Spec.kscale (row A B X P Q s) := by
  rw [← codeV_apply, ← scaleV_apply]
  unfold dbV codeV scaleV
  pointwise [k0_pay28, k0_pay27]
end Cert.KernelIdeal.Heads

end
-- ==== Proof.KernelPieces.lean ====
module

public import proofs.«01_k».proof.Proof.HeadValue
public import proofs.«01_k».proof.Proof.Gen.KernelIdeal.Frame
public import Idealize.ShloMosaic.Lib.Pipeline.Value
public import Idealize.ShloMosaic.Lib.Pipeline.ValueKit

/-!
The arrays one grid point of the kernel leaves in its blocks, in closed form, and how a list of stores with those
payloads reads as one of them. Nothing here depends on which of the three kinds of grid point stored the list.
-/

@[expose] public section
set_option maxRecDepth 16384
noncomputable section
namespace Cert.KernelIdeal.Heads
open Cert.KernelIdeal Cert.KernelIdeal.Gen Idealize.ShloMosaic Idealize.ShloMosaic.TcCoe Idealize.SL Idealize.SL.Sem

variable (x0 : Vec Ideal S6x1536x128 .f32) (x1 x2 : Vec Ideal S6x1536 .f32) (x5 x6 : Vec Ideal S6x112x1 .f32)

/-- A load of stored pieces reads the array the pieces spell, through the load's box. -/
theorem readCov_ld {sig : RefSig} {κ : Kind} {sp : Space} {s : Shape} {e : EltTy} (v : View sig κ sp s e) (L : List (View.Piece (Elt Ideal) s e))
    (r : Rect s) : v.readCov L r.toLoadRect = View.ld (View.canon L) r :=
  View.readCov_eq_canon' v L r.toLoadRect

/-- A two-axis box's index is its offset plus the index inside it. -/
theorem emb2 {N M m n a b : ℕ} (inb) (i : Fin m) (j : Fin n) :
    (Rect.unit ![a, b] ![m, n] inb : Rect ⟨2, ![N, M]⟩).emb (ix2 i j)
      = ix2 ⟨a + i.val, by have := inb 0; simp at this; omega⟩ ⟨b + j.val, by have := inb 1; simp at this; omega⟩ := by
  funext x
  apply Fin.ext
  rw [ValueKit.rect_emb_unit_val]
  match x with
  | ⟨0, _⟩ => rfl
  | ⟨1, _⟩ => rfl

/-- A three-axis box's index is its offset plus the index inside it. -/
theorem emb3 {N M K m n k a b c : ℕ} (inb) (i : Fin m) (j : Fin n) (l : Fin k) :
    (Rect.unit ![a, b, c] ![m, n, k] inb : Rect ⟨3, ![N, M, K]⟩).emb (ix3 i j l)
      = ix3 ⟨a + i.val, by have := inb 0; simp at this; omega⟩ ⟨b + j.val, by have := inb 1; simp at this; omega⟩
          ⟨c + l.val, by have := inb 2; simp at this; omega⟩ := by
  funext x
  apply Fin.ext
  rw [ValueKit.rect_emb_unit_val]
  match x with
  | ⟨0, _⟩ => rfl
  | ⟨1, _⟩ => rfl
  | ⟨2, _⟩ => rfl

/-- Membership in a two-axis box, axis by axis. -/
theorem mem2 {N M m n a b : ℕ} (inb) {d : Fin N} {k : Fin M}
    (hm : ix2 d k ∈ (Rect.unit ![a, b] ![m, n] inb : Rect ⟨2, ![N, M]⟩).set) : (a ≤ d.val ∧ d.val < a + m) ∧ (b ≤ k.val ∧ k.val < b + n) := by
  have h := Rect.mem_set_unit.mp hm
  exact ⟨h 0, h 1⟩

/-- Membership in a three-axis box, along the first axis. -/
theorem mem3 {N M K m n q a b c : ℕ} (inb) {h : Fin N} {d : Fin M} {k : Fin K}
    (hm : ix3 h d k ∈ (Rect.unit ![a, b, c] ![m, n, q] inb : Rect ⟨3, ![N, M, K]⟩).set) : a ≤ h.val ∧ h.val < a + m := by
  have h := Rect.mem_set_unit.mp hm
  exact h 0

/-- Head `h`'s gradient row at the block's node `s`. -/
def krow (h : Fin 6) (s : Fin 1536) (f : Fin 112) : EReal :=
  Spec.dh (x0 (ix3 h s ⟨f.val, by omega⟩)) (x1 (ix2 h s)) (x5 (ix3 h f 0)) (x2 (ix2 h s)) (x6 (ix3 h f 0))

/-- The scales of the block. -/
def scA : Vec Ideal S6x1536 .f32 := fun y => Spec.kscale (krow x0 x1 x2 x5 x6 (y 0) (y 1))
/-- The codes of the block, one row per head and feature. -/
def codeA : Vec Ideal S672x1536 .bf16 := fun y =>
  Spec.kcode (krow x0 x1 x2 x5 x6 ⟨(y 0).val / 112, by have := (y 0).isLt; simp at this; omega⟩ (y 1)) ⟨(y 0).val % 112, by omega⟩
/-- The rescaled codes of the block. -/
def dbA : Vec Ideal S672x1536 .bf16 := fun y =>
  Spec.kcode (krow x0 x1 x2 x5 x6 ⟨(y 0).val / 112, by have := (y 0).isLt; simp at this; omega⟩ (y 1)) ⟨(y 0).val % 112, by omega⟩
    * Spec.kscale (krow x0 x1 x2 x5 x6 ⟨(y 0).val / 112, by have := (y 0).isLt; simp at this; omega⟩ (y 1))

/-- A code at head `h`, feature `f`. -/
theorem codeA_at (h : Fin 6) (f : Fin 112) (s : Fin 1536) (d : Fin 672) (hd : d.val = 112 * h.val + f.val) :
    codeA x0 x1 x2 x5 x6 (ix2 d s) = Spec.kcode (krow x0 x1 x2 x5 x6 h s) f := by
  have e1 : (⟨d.val / 112, by omega⟩ : Fin 6) = h := Fin.ext (by simp only; omega)
  have e2 : (⟨d.val % 112, by omega⟩ : Fin 112) = f := Fin.ext (by simp only; omega)
  show Spec.kcode (krow x0 x1 x2 x5 x6 ⟨d.val / 112, _⟩ s) ⟨d.val % 112, _⟩ = _
  rw [e1, e2]
/-- A rescaled code at head `h`, feature `f`. -/
theorem dbA_at (h : Fin 6) (f : Fin 112) (s : Fin 1536) (d : Fin 672) (hd : d.val = 112 * h.val + f.val) :
    dbA x0 x1 x2 x5 x6 (ix2 d s) = Spec.kcode (krow x0 x1 x2 x5 x6 h s) f * Spec.kscale (krow x0 x1 x2 x5 x6 h s) := by
  have e1 : (⟨d.val / 112, by omega⟩ : Fin 6) = h := Fin.ext (by simp only; omega)
  have e2 : (⟨d.val % 112, by omega⟩ : Fin 112) = f := Fin.ext (by simp only; omega)
  show Spec.kcode (krow x0 x1 x2 x5 x6 ⟨d.val / 112, _⟩ s) ⟨d.val % 112, _⟩ * Spec.kscale (krow x0 x1 x2 x5 x6 ⟨d.val / 112, _⟩ s) = _
  rw [e1, e2]

/-- A load of a two-axis box, at an index of the box. -/
theorem ld2 {N M m n a b : ℕ} {e : EltTy} (x : Vec Ideal ⟨2, ![N, M]⟩ e) (inb) (i : Fin m) (j : Fin n) (I : Fin N) (J : Fin M)
    (hI : I.val = a + i.val) (hJ : J.val = b + j.val) :
    View.ld x (Rect.unit ![a, b] ![m, n] inb : Rect ⟨2, ![N, M]⟩) (ix2 i j) = x (ix2 I J) := by
  show x ((Rect.unit ![a, b] ![m, n] inb : Rect ⟨2, ![N, M]⟩).emb (ix2 i j)) = _
  rw [emb2]
  exact congrArg x (congrArg₂ ix2 (Fin.ext hI.symm) (Fin.ext hJ.symm))

/-- A load of a three-axis box, at an index of the box. -/
theorem ld3 {N M K m n k a b c : ℕ} {e : EltTy} (x : Vec Ideal ⟨3, ![N, M, K]⟩ e) (inb) (i : Fin m) (j : Fin n) (l : Fin k)
    (I : Fin N) (J : Fin M) (L : Fin K) (hI : I.val = a + i.val) (hJ : J.val = b + j.val) (hL : L.val = c + l.val) :
    View.ld x (Rect.unit ![a, b, c] ![m, n, k] inb : Rect ⟨3, ![N, M, K]⟩) (ix3 i j l) = x (ix3 I J L) := by
  show x ((Rect.unit ![a, b, c] ![m, n, k] inb : Rect ⟨3, ![N, M, K]⟩).emb (ix3 i j l)) = _
  rw [emb3]
  exact congrArg x (by rw [show (⟨a + i.val, _⟩ : Fin N) = I from Fin.ext hI.symm, show (⟨b + j.val, _⟩ : Fin M) = J from Fin.ext hJ.symm, show (⟨c + l.val, _⟩ : Fin K) = L from Fin.ext hL.symm])

section HeadRows
variable {o : ℕ} (ho : o < 6)
  (i1 : ∀ a, (![o, 0] : Fin 2 → ℕ) a + S1x1536.size a ≤ S6x1536.size a) (i2 : ∀ a, (![o, 0] : Fin 2 → ℕ) a + S1x1536.size a ≤ S6x1536.size a)
  (i0 : ∀ a, (![o, 0, 0] : Fin 3 → ℕ) a + S1x1536x128.size a ≤ S6x1536x128.size a)
  (i5 : ∀ a, (![o, 0, 0] : Fin 3 → ℕ) a + S1x112x1.size a ≤ S6x112x1.size a) (i6 : ∀ a, (![o, 0, 0] : Fin 3 → ℕ) a + S1x112x1.size a ≤ S6x112x1.size a)
include ho

/-- A head's row, read through the kernel's loads. -/
theorem row_ld (s : Fin 1536) : row (View.ld x1 (Rect.unit ![o, 0] S1x1536.size i1)) (View.ld x2 (Rect.unit ![o, 0] S1x1536.size i2))
    (View.ld x0 (Rect.unit ![o, 0, 0] S1x1536x128.size i0)) (View.ld x5 (Rect.unit ![o, 0, 0] S1x112x1.size i5))
    (View.ld x6 (Rect.unit ![o, 0, 0] S1x112x1.size i6)) s = krow x0 x1 x2 x5 x6 ⟨o, ho⟩ s := by
  funext f
  unfold row krow
  rw [ld3 x0 i0 0 s _ ⟨o, ho⟩ s ⟨f.val, by omega⟩ rfl (by simp) (by simp), ld2 x1 i1 0 s ⟨o, ho⟩ s rfl (by simp), ld3 x5 i5 0 f 0 ⟨o, ho⟩ f 0 rfl (by simp) rfl,
    ld2 x2 i2 0 s ⟨o, ho⟩ s rfl (by simp), ld3 x6 i6 0 f 0 ⟨o, ho⟩ f 0 rfl (by simp) rfl]

/-- A head's scales. -/
theorem sc_ld (z : Fin 1) (s : Fin 1536) (hz : o + z.val < 6) :
    scaleV (View.ld x1 (Rect.unit ![o, 0] S1x1536.size i1)) (View.ld x2 (Rect.unit ![o, 0] S1x1536.size i2))
    (View.ld x0 (Rect.unit ![o, 0, 0] S1x1536x128.size i0)) (View.ld x5 (Rect.unit ![o, 0, 0] S1x112x1.size i5))
    (View.ld x6 (Rect.unit ![o, 0, 0] S1x112x1.size i6)) (ix2 z s) = scA x0 x1 x2 x5 x6 (ix2 ⟨o + z.val, hz⟩ s) := by
  obtain rfl : z = 0 := Subsingleton.elim _ _
  rw [scaleV_apply, row_ld x0 x1 x2 x5 x6 ho]; rfl

/-- A head's codes. -/
theorem cd_ld {r : ℕ} (hr : r = 112 * o) (f : Fin 112) (s : Fin 1536) (hf : r + f.val < 672) :
    codeV (View.ld x1 (Rect.unit ![o, 0] S1x1536.size i1)) (View.ld x2 (Rect.unit ![o, 0] S1x1536.size i2))
    (View.ld x0 (Rect.unit ![o, 0, 0] S1x1536x128.size i0)) (View.ld x5 (Rect.unit ![o, 0, 0] S1x112x1.size i5))
    (View.ld x6 (Rect.unit ![o, 0, 0] S1x112x1.size i6)) (ix2 f s) = codeA x0 x1 x2 x5 x6 (ix2 ⟨r + f.val, hf⟩ s) := by
  rw [codeV_apply, row_ld x0 x1 x2 x5 x6 ho, codeA_at x0 x1 x2 x5 x6 ⟨o, ho⟩ f s _ (by simp only; omega)]

/-- A head's rescaled codes. -/
theorem dd_ld {r : ℕ} (hr : r = 112 * o) (f : Fin 112) (s : Fin 1536) (hf : r + f.val < 672) :
    dbV (View.ld x1 (Rect.unit ![o, 0] S1x1536.size i1)) (View.ld x2 (Rect.unit ![o, 0] S1x1536.size i2))
    (View.ld x0 (Rect.unit ![o, 0, 0] S1x1536x128.size i0)) (View.ld x5 (Rect.unit ![o, 0, 0] S1x112x1.size i5))
    (View.ld x6 (Rect.unit ![o, 0, 0] S1x112x1.size i6)) (ix2 f s) = dbA x0 x1 x2 x5 x6 (ix2 ⟨r + f.val, hf⟩ s) := by
  rw [dbV_apply, row_ld x0 x1 x2 x5 x6 ho, dbA_at x0 x1 x2 x5 x6 ⟨o, ho⟩ f s _ (by simp only; omega)]
end HeadRows

/-- One more row-block piece, over pieces that spell `G` on the rows before it. -/
theorem rows_step {N M m o : ℕ} {e : EltTy} (G : Vec Ideal ⟨2, ![N, M]⟩ e) (inb) (w : Vec Ideal ⟨2, ![m, M]⟩ e)
    (L : List (View.Piece (Elt Ideal) ⟨2, ![N, M]⟩ e)) (hL : ∀ (d : Fin N) (k : Fin M), d.val < o → View.canon L (ix2 d k) = G (ix2 d k))
    (hw : ∀ (i : Fin m) (k : Fin M) (hi : o + i.val < N), w (ix2 i k) = G (ix2 ⟨o + i.val, hi⟩ k)) :
    ∀ (d : Fin N) (k : Fin M), d.val < o + m →
      View.canon ((⟨Rect.unit ![o, 0] ![m, M] inb, w⟩ : View.Piece (Elt Ideal) ⟨2, ![N, M]⟩ e) :: L) (ix2 d k) = G (ix2 d k) := by
  intro d k hd
  by_cases h : o ≤ d.val
  · have hi : d.val - o < m := by omega
    have e : (ix2 d k : (⟨2, ![N, M]⟩ : Shape).Idx) = (Rect.unit ![o, 0] ![m, M] inb : Rect ⟨2, ![N, M]⟩).emb (ix2 ⟨d.val - o, hi⟩ k) := by
      rw [emb2]
      congr 1
      · apply Fin.ext; simp only; omega
      · apply Fin.ext; simp
    have e2 : d = ⟨o + (d.val - o), by omega⟩ := Fin.ext (by simp only; omega)
    have := View.canon_cons_emb (Rect.unit ![o, 0] ![m, M] inb : Rect ⟨2, ![N, M]⟩) w L (ix2 ⟨d.val - o, hi⟩ k)
    rw [← e] at this
    rw [this, hw _ _ (by simp only; omega), ← e2]
  · rw [View.canon_cons_of_not_mem _ _ (by intro hm; exact h (mem2 inb hm).1.1)]
    exact hL d k (by omega)

/-- One more column-block piece, over pieces that spell `G` on the columns before it. -/
theorem cols_step {N M m o : ℕ} {e : EltTy} (G : Vec Ideal ⟨2, ![N, M]⟩ e) (inb) (w : Vec Ideal ⟨2, ![N, m]⟩ e)
    (L : List (View.Piece (Elt Ideal) ⟨2, ![N, M]⟩ e)) (hL : ∀ (d : Fin N) (k : Fin M), k.val < o → View.canon L (ix2 d k) = G (ix2 d k))
    (hw : ∀ (d : Fin N) (i : Fin m) (hi : o + i.val < M), w (ix2 d i) = G (ix2 d ⟨o + i.val, hi⟩)) :
    ∀ (d : Fin N) (k : Fin M), k.val < o + m →
      View.canon ((⟨Rect.unit ![0, o] ![N, m] inb, w⟩ : View.Piece (Elt Ideal) ⟨2, ![N, M]⟩ e) :: L) (ix2 d k) = G (ix2 d k) := by
  intro d k hd
  by_cases h : o ≤ k.val
  · have hi : k.val - o < m := by omega
    have e : (ix2 d k : (⟨2, ![N, M]⟩ : Shape).Idx) = (Rect.unit ![0, o] ![N, m] inb : Rect ⟨2, ![N, M]⟩).emb (ix2 d ⟨k.val - o, hi⟩) := by
      rw [emb2]
      congr 1
      · apply Fin.ext; simp
      · apply Fin.ext; simp only; omega
    have e2 : k = ⟨o + (k.val - o), by omega⟩ := Fin.ext (by simp only; omega)
    have := View.canon_cons_emb (Rect.unit ![0, o] ![N, m] inb : Rect ⟨2, ![N, M]⟩) w L (ix2 d ⟨k.val - o, hi⟩)
    rw [← e] at this
    rw [this, hw _ _ (by simp only; omega), ← e2]
  · rw [View.canon_cons_of_not_mem _ _ (by intro hm; exact h (mem2 inb hm).2.1)]
    exact hL d k (by omega)

/-- A column-block piece leaves the columns after it as they were. -/
theorem cols_rest {N M m o : ℕ} {e : EltTy} (X : Vec Ideal ⟨2, ![N, M]⟩ e) (inb) (w : Vec Ideal ⟨2, ![N, m]⟩ e)
    (L : List (View.Piece (Elt Ideal) ⟨2, ![N, M]⟩ e)) (hL : ∀ (d : Fin N) (k : Fin M), o ≤ k.val → View.canon L (ix2 d k) = X (ix2 d k)) :
    ∀ (d : Fin N) (k : Fin M), o + m ≤ k.val →
      View.canon ((⟨Rect.unit ![0, o] ![N, m] inb, w⟩ : View.Piece (Elt Ideal) ⟨2, ![N, M]⟩ e) :: L) (ix2 d k) = X (ix2 d k) := by
  intro d k hd
  rw [View.canon_cons_of_not_mem _ _ (fun hm => by
    have := (mem2 inb hm).2.2
    omega)]
  exact hL d k (by omega)

/-- One more one-head piece, over pieces that spell `G` on the heads before it. -/
theorem heads_step {N M K o : ℕ} {e : EltTy} (G : Vec Ideal ⟨3, ![N, M, K]⟩ e) (inb) (w : Vec Ideal ⟨3, ![1, M, K]⟩ e)
    (L : List (View.Piece (Elt Ideal) ⟨3, ![N, M, K]⟩ e)) (hL : ∀ (h : Fin N) (f : Fin M) (l : Fin K), h.val < o → View.canon L (ix3 h f l) = G (ix3 h f l))
    (hw : ∀ (h : Fin N) (f : Fin M) (l : Fin K), h.val = o → w (ix3 0 f l) = G (ix3 h f l)) :
    ∀ (h : Fin N) (f : Fin M) (l : Fin K), h.val < o + 1 →
      View.canon ((⟨Rect.unit ![o, 0, 0] ![1, M, K] inb, w⟩ : View.Piece (Elt Ideal) ⟨3, ![N, M, K]⟩ e) :: L) (ix3 h f l) = G (ix3 h f l) := by
  intro h f l hd
  by_cases ho : o ≤ h.val
  · have e : (ix3 h f l : (⟨3, ![N, M, K]⟩ : Shape).Idx) = (Rect.unit ![o, 0, 0] ![1, M, K] inb : Rect ⟨3, ![N, M, K]⟩).emb (ix3 0 f l) := by
      rw [emb3]
      congr 1
      · apply Fin.ext; simp only [Fin.val_zero]; omega
      · apply Fin.ext; simp
      · apply Fin.ext; simp
    have := View.canon_cons_emb (Rect.unit ![o, 0, 0] ![1, M, K] inb : Rect ⟨3, ![N, M, K]⟩) w L (ix3 0 f l)
    rw [← e] at this
    rw [this, hw h f l (by omega)]
  · rw [View.canon_cons_of_not_mem _ _ (by intro hm; exact ho (mem3 inb hm).1)]
    exact hL h f l (by omega)

/-- A one-head piece leaves the heads after it as they were. -/
theorem heads_rest {N M K o : ℕ} {e : EltTy} (X : Vec Ideal ⟨3, ![N, M, K]⟩ e) (inb) (w : Vec Ideal ⟨3, ![1, M, K]⟩ e)
    (L : List (View.Piece (Elt Ideal) ⟨3, ![N, M, K]⟩ e)) (hL : ∀ (h : Fin N) (f : Fin M) (l : Fin K), o ≤ h.val → View.canon L (ix3 h f l) = X (ix3 h f l)) :
    ∀ (h : Fin N) (f : Fin M) (l : Fin K), o + 1 ≤ h.val →
      View.canon ((⟨Rect.unit ![o, 0, 0] ![1, M, K] inb, w⟩ : View.Piece (Elt Ideal) ⟨3, ![N, M, K]⟩ e) :: L) (ix3 h f l) = X (ix3 h f l) := by
  intro h f l hd
  rw [View.canon_cons_of_not_mem _ _ (fun hm => by
    have := (mem3 inb hm).2
    omega)]
  exact hL h f l (by omega)

/-- The block of the activation gradient from the rescaled codes. -/
def dxA (D : Vec Ideal S672x1536 .bf16) (x9 : Vec Ideal S672x2304 .fp8e4m3) (x10 : Vec Ideal S1x2304 .f32) : Vec Ideal S1536x2304 .bf16 := fun y =>
  (∑ d : Fin 672, D (ix2 d (y 0)) * x9 (ix2 d (y 1))) * x10 (ix2 0 (y 1))
/-- The weight gradient after one more block. -/
def dwA (p : Vec Ideal S672x2304 .f32) (D : Vec Ideal S672x1536 .bf16) (x8 : Vec Ideal S1x1536 .f32) (x7 : Vec Ideal S1536x2304 .fp8e4m3) :
    Vec Ideal S672x2304 .f32 := fun y =>
  p y + ∑ s : Fin 1536, (D (ix2 (y 0) s) * x8 (ix2 0 s)) * x7 (ix2 s (y 1))
/-- One node's term of an attention-vector gradient. -/
def tm (x3 : Vec Ideal S672x1536 .fp8e4m3) (x4 x1 : Vec Ideal S6x1536 .f32) (h : Fin 6) (f : Fin 112) (n : Fin 1536) : EReal :=
  x3 (ix2 ⟨112 * h.val + f.val, by omega⟩ n) * x4 (ix2 h n) * x1 (ix2 h n)
/-- A running value plus twelve groups of 128 lanes. -/
def lanes (p : EReal) (t : Fin 1536 → EReal) (l : Fin 128) : EReal :=
  p + t ⟨l.val, by omega⟩ + t ⟨128 + l.val, by omega⟩ + t ⟨256 + l.val, by omega⟩ + t ⟨384 + l.val, by omega⟩ + t ⟨512 + l.val, by omega⟩
    + t ⟨640 + l.val, by omega⟩ + t ⟨768 + l.val, by omega⟩ + t ⟨896 + l.val, by omega⟩ + t ⟨1024 + l.val, by omega⟩ + t ⟨1152 + l.val, by omega⟩
    + t ⟨1280 + l.val, by omega⟩ + t ⟨1408 + l.val, by omega⟩
/-- An attention-vector gradient's lanes after one more block. -/
def daA (p : Vec Ideal S6x112x128 .f32) (x3 : Vec Ideal S672x1536 .fp8e4m3) (x4 x1 : Vec Ideal S6x1536 .f32) : Vec Ideal S6x112x128 .f32 := fun y =>
  lanes (p y) (tm x3 x4 x1 (y 0) (y 1)) (y 2)
/-- The sum over the lanes, on every lane. -/
def sumA (p : Vec Ideal S6x112x128 .f32) : Vec Ideal S6x112x128 .f32 := fun y => ∑ l : Fin 128, p (ix3 (y 0) (y 1) l)

/-- The rescaled codes times the node scales. -/
def dsA (D : Vec Ideal S672x1536 .bf16) (x8 : Vec Ideal S1x1536 .f32) : Vec Ideal S672x1536 .bf16 := fun y => D y * x8 (ix2 0 (y 1))
/-- The payload that casts the codes is the codes. -/
theorem pay84_apply (v : Vec Ideal S672x1536 .bf16) (d : Fin 672) (s : Fin 1536) : k0_pay84 v (ix2 d s) = v (ix2 d s) := by
  unfold_payloads
  pointwise
/-- The payload that multiplies the node scales in. -/
theorem pay122_apply (a : Vec Ideal S672x1536 .bf16) (w : Vec Ideal S1x1536 .f32) (n : Fin 672) (k : Fin 1536) :
    k0_pay122 a w (ix2 n k) = a (ix2 n k) * w (ix2 0 k) := by
  unfold_payloads
  pointwise
/-- The cleared weight gradient. -/
def zW : Vec Ideal S672x2304 .f32 := fun _ => 0
/-- The cleared lanes. -/
def zL : Vec Ideal S6x112x128 .f32 := fun _ => 0
/-- The payload that clears the weight gradient. -/
theorem pay16_apply (n : Fin 672) (k : Fin 2304) : k0_pay16 (F := Ideal) (ix2 n k) = 0 := by
  unfold_payloads
  pointwise
/-- The payload that clears the source lanes. -/
theorem pay17_apply (h : Fin 6) (n : Fin 112) (k : Fin 128) : k0_pay17 (F := Ideal) (ix3 h n k) = 0 := by
  unfold_payloads
  pointwise
/-- The payload that clears the destination lanes. -/
theorem pay18_apply (h : Fin 6) (n : Fin 112) (k : Fin 128) : k0_pay18 (F := Ideal) (ix3 h n k) = 0 := by
  unfold_payloads
  pointwise

/-- Pieces that spell `G` on every row, column or head spell `G`. -/
theorem rows_all {N M : ℕ} {e : EltTy} {G : Vec Ideal ⟨2, ![N, M]⟩ e} {L : List (View.Piece (Elt Ideal) ⟨2, ![N, M]⟩ e)}
    (h : ∀ (d : Fin N) (k : Fin M), d.val < N → View.canon L (ix2 d k) = G (ix2 d k)) : View.canon L = G := by
  funext y
  rw [show y = ix2 (y 0) (y 1) from funext fun a => match a with | ⟨0, _⟩ => rfl | ⟨1, _⟩ => rfl]
  exact h _ _ (y 0).isLt
theorem cols_all {N M : ℕ} {e : EltTy} {G : Vec Ideal ⟨2, ![N, M]⟩ e} {L : List (View.Piece (Elt Ideal) ⟨2, ![N, M]⟩ e)}
    (h : ∀ (d : Fin N) (k : Fin M), k.val < M → View.canon L (ix2 d k) = G (ix2 d k)) : View.canon L = G :=
  rows_all fun d k _ => h d k k.isLt
theorem heads_all {N M K : ℕ} {e : EltTy} {G : Vec Ideal ⟨3, ![N, M, K]⟩ e} {L : List (View.Piece (Elt Ideal) ⟨3, ![N, M, K]⟩ e)}
    (H : ∀ (h : Fin N) (f : Fin M) (l : Fin K), h.val < N → View.canon L (ix3 h f l) = G (ix3 h f l)) : View.canon L = G := by
  funext y
  rw [show y = ix3 (y 0) (y 1) (y 2) from funext fun a => match a with | ⟨0, _⟩ => rfl | ⟨1, _⟩ => rfl | ⟨2, _⟩ => rfl]
  exact H _ _ _ (y 0).isLt

/-- What a list of column-block stores reads as when the blocks before column `o` hold `G` and the rest still holds `X`. -/
def Cols {N M : ℕ} {e : EltTy} (G X : Vec Ideal ⟨2, ![N, M]⟩ e) (o : ℕ) (L : List (View.Piece (Elt Ideal) ⟨2, ![N, M]⟩ e)) : Prop :=
  (∀ (d : Fin N) (k : Fin M), k.val < o → View.canon L (ix2 d k) = G (ix2 d k))
    ∧ ∀ (d : Fin N) (k : Fin M), o ≤ k.val → View.canon L (ix2 d k) = X (ix2 d k)
/-- One more column block, computed from the list's own columns. -/
theorem Cols.step {N M m o : ℕ} {e : EltTy} {G X : Vec Ideal ⟨2, ![N, M]⟩ e} {inb} {w : Vec Ideal ⟨2, ![N, m]⟩ e}
    {L : List (View.Piece (Elt Ideal) ⟨2, ![N, M]⟩ e)} (hL : Cols G X o L)
    (hw : (∀ (d : Fin N) (k : Fin M), o ≤ k.val → View.canon L (ix2 d k) = X (ix2 d k)) →
      ∀ (d : Fin N) (i : Fin m) (hi : o + i.val < M), w (ix2 d i) = G (ix2 d ⟨o + i.val, hi⟩)) :
    Cols G X (o + m) ((⟨Rect.unit ![0, o] ![N, m] inb, w⟩ : View.Piece (Elt Ideal) ⟨2, ![N, M]⟩ e) :: L) :=
  ⟨cols_step G inb w L hL.1 (hw hL.2), cols_rest X inb w L hL.2⟩
/-- After the last column block the list spells `G`. -/
theorem Cols.done {N M : ℕ} {e : EltTy} {G X : Vec Ideal ⟨2, ![N, M]⟩ e} {L : List (View.Piece (Elt Ideal) ⟨2, ![N, M]⟩ e)} (hL : Cols G X M L) :
    View.canon L = G :=
  cols_all hL.1

/-- What a list of one-head stores reads as when the heads before `o` hold `G` and the rest still holds `X`. -/
def Hds {N M K : ℕ} {e : EltTy} (G X : Vec Ideal ⟨3, ![N, M, K]⟩ e) (o : ℕ) (L : List (View.Piece (Elt Ideal) ⟨3, ![N, M, K]⟩ e)) : Prop :=
  (∀ (h : Fin N) (f : Fin M) (l : Fin K), h.val < o → View.canon L (ix3 h f l) = G (ix3 h f l))
    ∧ ∀ (h : Fin N) (f : Fin M) (l : Fin K), o ≤ h.val → View.canon L (ix3 h f l) = X (ix3 h f l)
/-- One more head, computed from the list's own heads. -/
theorem Hds.step {N M K o : ℕ} {e : EltTy} {G X : Vec Ideal ⟨3, ![N, M, K]⟩ e} {inb} {w : Vec Ideal ⟨3, ![1, M, K]⟩ e}
    {L : List (View.Piece (Elt Ideal) ⟨3, ![N, M, K]⟩ e)} (hL : Hds G X o L)
    (hw : (∀ (h : Fin N) (f : Fin M) (l : Fin K), o ≤ h.val → View.canon L (ix3 h f l) = X (ix3 h f l)) →
      ∀ (h : Fin N) (f : Fin M) (l : Fin K), h.val = o → w (ix3 0 f l) = G (ix3 h f l)) :
    Hds G X (o + 1) ((⟨Rect.unit ![o, 0, 0] ![1, M, K] inb, w⟩ : View.Piece (Elt Ideal) ⟨3, ![N, M, K]⟩ e) :: L) :=
  ⟨heads_step G inb w L hL.1 (hw hL.2), heads_rest X inb w L hL.2⟩
/-- After the last head the list spells `G`. -/
theorem Hds.done {N M K : ℕ} {e : EltTy} {G X : Vec Ideal ⟨3, ![N, M, K]⟩ e} {L : List (View.Piece (Elt Ideal) ⟨3, ![N, M, K]⟩ e)} (hL : Hds G X N L) :
    View.canon L = G :=
  heads_all hL.1

/-- A row block of the activation gradient. -/
theorem dx_block (D : Vec Ideal S672x1536 .bf16) (x9 : Vec Ideal S672x2304 .fp8e4m3) (x10 : Vec Ideal S1x2304 .f32) {o : ℕ} (inb inb9 inb10)
    (i : Fin 256) (k : Fin 2304) (hi : o + i.val < 1536) :
    k0_pay117 (k0_pay115 (View.ld x9 (Rect.unit ![0, 0] S672x2304.size inb9))) (View.ld D (Rect.unit ![0, o] S672x256.size inb : Rect S672x1536))
      (View.ld x10 (Rect.unit ![0, 0] S1x2304.size inb10)) (ix2 i k) = dxA D x9 x10 (ix2 ⟨o + i.val, hi⟩ k) := by
  unfold dxA
  pointwise [k0_pay117, k0_pay115]

/-- A column block of the weight gradient after one more block of nodes. -/
theorem dw_block (p : Vec Ideal S672x2304 .f32) (D : Vec Ideal S672x1536 .bf16) (x8 : Vec Ideal S1x1536 .f32) (x7 : Vec Ideal S1536x2304 .fp8e4m3)
    {o : ℕ} (inb inbD inb7) (q : Vec Ideal S672x2304 .f32) (hq : ∀ (d : Fin 672) (k : Fin 2304), o ≤ k.val → q (ix2 d k) = p (ix2 d k))
    (d : Fin 672) (i : Fin 256) (hi : o + i.val < 2304) :
    k0_pay123 (View.ld q (Rect.unit ![0, o] S672x256.size inb)) (View.ld (dsA D x8) (Rect.unit ![0, 0] S672x1536.size inbD)) (View.ld x7 (Rect.unit ![0, o] S1536x256.size inb7)) (ix2 d i)
      = dwA p D x8 x7 (ix2 d ⟨o + i.val, hi⟩) := by
  unfold dwA dsA
  pointwise [k0_pay123]
  rw [hq _ _ (Nat.le_add_right _ _)]

/-! The body writes the row blocks, the column blocks, the heads and the lane sums out one by one. The printed payloads of the
same kind are one function. -/

section Same
variable {F : FTy → Type} [FloatOps F]

theorem dxp0 (W D S) : k0_pay116 (F := F) W D S = k0_pay117 (k0_pay115 W) D S := rfl
theorem dxp2 : @k0_pay118 F _ = k0_pay117 := rfl
theorem dxp3 : @k0_pay119 F _ = k0_pay117 := rfl
theorem dxp4 : @k0_pay120 F _ = k0_pay117 := rfl
theorem dxp5 : @k0_pay121 F _ = k0_pay117 := rfl
theorem dwp1 : @k0_pay124 F _ = k0_pay123 := rfl
theorem dwp2 : @k0_pay125 F _ = k0_pay123 := rfl
theorem dwp3 : @k0_pay126 F _ = k0_pay123 := rfl
theorem dwp4 : @k0_pay127 F _ = k0_pay123 := rfl
theorem dwp5 : @k0_pay128 F _ = k0_pay123 := rfl
theorem dwp6 : @k0_pay129 F _ = k0_pay123 := rfl
theorem dwp7 : @k0_pay130 F _ = k0_pay123 := rfl
theorem dwp8 (p D W) : k0_pay1 (F := F) (k0_pay131 p) D W = k0_pay123 p D W := rfl

variable (X : Vec F S224x1536 .fp8e4m3) (s a : Vec F S1x1536 .f32) (p : Vec F S1x112x128 .f32)
/-- The lanes of the first head of a pair. -/
def loV : FVec F S1x112x128 .f32 := k0_pay88 (k0_pay87 X s a) p
/-- The lanes of the second head of a pair. -/
def hiV : FVec F S1x112x128 .f32 := k0_pay93 (k0_pay85 X) s a p
theorem src0 : k0_pay88 (k0_pay87 X s a) p = loV X s a p := rfl
theorem src1 : k0_pay93 (k0_pay85 X) s a p = hiV X s a p := rfl
theorem src2 : k0_pay98 (k0_pay97 X s a) p = loV X s a p := rfl
theorem src3 : k0_pay103 (k0_pay95 X) s a p = hiV X s a p := rfl
theorem src4 : k0_pay108 (k0_pay107 X s a) p = loV X s a p := rfl
theorem src5 : k0_pay113 (k0_pay105 X) s a p = hiV X s a p := rfl
theorem dst0 : k0_pay91 (k0_pay89 (k0_pay86 X s) a) (k0_pay90 (k0_pay86 X s) a p) = loV X s a p := rfl
theorem dst1 : k0_pay94 (k0_pay92 (k0_pay85 X) s) a p = hiV X s a p := rfl
theorem dst2 : k0_pay101 (k0_pay99 (k0_pay96 X s) a) (k0_pay100 (k0_pay96 X s) a p) = loV X s a p := rfl
theorem dst3 : k0_pay104 (k0_pay102 (k0_pay95 X) s) a p = hiV X s a p := rfl
theorem dst4 : k0_pay111 (k0_pay109 (k0_pay106 X s) a) (k0_pay110 (k0_pay106 X s) a p) = loV X s a p := rfl
theorem dst5 : k0_pay114 (k0_pay112 (k0_pay105 X) s) a p = hiV X s a p := rfl

theorem sum1 : @k0_pay5 F _ = k0_pay4 := rfl
theorem sum2 : @k0_pay6 F _ = k0_pay4 := rfl
theorem sum3 : k0_pay8 (k0_pay7 p) = k0_pay4 p := rfl
theorem sum4 : @k0_pay9 F _ = k0_pay4 := rfl
theorem sum5 : @k0_pay10 F _ = k0_pay4 := rfl
theorem sum6 : @k0_pay11 F _ = k0_pay4 := rfl
theorem sum7 : @k0_pay12 F _ = k0_pay4 := rfl
theorem sum8 : @k0_pay13 F _ = k0_pay4 := rfl
theorem sum9 : @k0_pay14 F _ = k0_pay4 := rfl
theorem sum10 : k0_pay2 (k0_pay15 p) = k0_pay4 p := rfl
theorem sum11 : @k0_pay3 F _ = k0_pay4 := rfl
end Same

/-- One head's lanes after one more block of nodes, the head being the first of its pair. -/
theorem lo_block (p : Vec Ideal S6x112x128 .f32) (x3 : Vec Ideal S672x1536 .fp8e4m3) (x4 x1 : Vec Ideal S6x1536 .f32) {o r : ℕ}
    (inb inb3 inb4 inb1) (q : Vec Ideal S6x112x128 .f32) (hq : ∀ (h : Fin 6) (f : Fin 112) (l : Fin 128), o ≤ h.val → q (ix3 h f l) = p (ix3 h f l))
    (hr : r = 112 * o) (h : Fin 6) (f : Fin 112) (l : Fin 128) (ho : h.val = o) :
    loV (View.ld x3 (Rect.unit ![r, 0] S224x1536.size inb3)) (View.ld x4 (Rect.unit ![o, 0] S1x1536.size inb4))
      (View.ld x1 (Rect.unit ![o, 0] S1x1536.size inb1)) (View.ld q (Rect.unit ![o, 0, 0] S1x112x128.size inb)) (ix3 0 f l)
      = daA p x3 x4 x1 (ix3 h f l) := by
  unfold daA lanes tm
  pointwise [loV, k0_pay88, k0_pay87, k0_pay86, k0_pay85]
  subst hr ho
  rw [hq _ _ _ (le_refl _)]

/-- One head's lanes after one more block of nodes, the head being the second of its pair. -/
theorem hi_block (p : Vec Ideal S6x112x128 .f32) (x3 : Vec Ideal S672x1536 .fp8e4m3) (x4 x1 : Vec Ideal S6x1536 .f32) {o r : ℕ}
    (inb inb3 inb4 inb1) (q : Vec Ideal S6x112x128 .f32) (hq : ∀ (h : Fin 6) (f : Fin 112) (l : Fin 128), o ≤ h.val → q (ix3 h f l) = p (ix3 h f l))
    (hr : r + 112 = 112 * o) (h : Fin 6) (f : Fin 112) (l : Fin 128) (ho : h.val = o) :
    hiV (View.ld x3 (Rect.unit ![r, 0] S224x1536.size inb3)) (View.ld x4 (Rect.unit ![o, 0] S1x1536.size inb4))
      (View.ld x1 (Rect.unit ![o, 0] S1x1536.size inb1)) (View.ld q (Rect.unit ![o, 0, 0] S1x112x128.size inb)) (ix3 0 f l)
      = daA p x3 x4 x1 (ix3 h f l) := by
  unfold daA lanes tm
  pointwise [hiV, k0_pay93, k0_pay92, k0_pay85]
  subst ho
  rw [hq _ _ _ (le_refl _)]
  have e (n : Fin 1536) (hn) : x3 (ix2 ⟨r + (112 + f.val), hn⟩ n) = x3 (ix2 ⟨112 * h.val + f.val, by omega⟩ n) :=
    congrArg (fun d => x3 (ix2 d n)) (Fin.ext (by simp only; omega))
  simp only [e]

/-- One head's lanes, summed. -/
theorem sum_block (p : Vec Ideal S6x112x128 .f32) {o : ℕ} (inb) (q : Vec Ideal S6x112x128 .f32)
    (hq : ∀ (h : Fin 6) (f : Fin 112) (l : Fin 128), o ≤ h.val → q (ix3 h f l) = p (ix3 h f l))
    (h : Fin 6) (f : Fin 112) (l : Fin 128) (ho : h.val = o) :
    k0_pay4 (View.ld q (Rect.unit ![o, 0, 0] S1x112x128.size inb)) (ix3 0 f l) = sumA p (ix3 h f l) := by
  unfold sumA
  pointwise [k0_pay4]
  subst ho
  exact Finset.sum_congr rfl fun x _ => hq _ _ _ (le_refl _)

end Cert.KernelIdeal.Heads
end
-- ==== Proof.KernelRunA.lean ====
module

public import proofs.«01_k».proof.Proof.KernelPieces

/-!
What a grid point of kind A leaves in each of its output blocks, as the closed-form arrays of `KernelPieces`.
-/

@[expose] public section
set_option maxRecDepth 16384
noncomputable section
namespace Cert.KernelIdeal.RunA
open Cert.KernelIdeal Cert.KernelIdeal.Gen Cert.KernelIdeal.Heads Idealize.ShloMosaic Idealize.ShloMosaic.TcCoe Idealize.SL Idealize.SL.Sem

variable (c : Dev nD) (i : grid0.Coords) (arg1 : Memref sig .tc .vmem S6x1536x128 .f32) (harg1 : arg1.IsWhole) (arg2 : Memref sig .tc .vmem S6x1536 .f32) (harg2 : arg2.IsWhole) (arg3 : Memref sig .tc .vmem S6x1536 .f32) (harg3 : arg3.IsWhole) (arg4 : Memref sig .tc .vmem S672x1536 .fp8e4m3) (harg4 : arg4.IsWhole) (arg5 : Memref sig .tc .vmem S6x1536 .f32) (harg5 : arg5.IsWhole) (arg6 : Memref sig .tc .vmem S6x112x1 .f32) (harg6 : arg6.IsWhole) (arg7 : Memref sig .tc .vmem S6x112x1 .f32) (harg7 : arg7.IsWhole) (arg8 : Memref sig .tc .vmem S1536x2304 .fp8e4m3) (harg8 : arg8.IsWhole) (arg9 : Memref sig .tc .vmem S1x1536 .f32) (harg9 : arg9.IsWhole) (arg10 : Memref sig .tc .vmem S672x2304 .fp8e4m3) (harg10 : arg10.IsWhole) (arg11 : Memref sig .tc .vmem S1x2304 .f32) (harg11 : arg11.IsWhole) (arg12 : Memref sig .tc .vmem S1536x2304 .bf16) (harg12 : arg12.IsWhole) (arg13 : Memref sig .tc .vmem S672x2304 .f32) (harg13 : arg13.IsWhole) (arg14 : Memref sig .tc .vmem S6x112x128 .f32) (harg14 : arg14.IsWhole) (arg15 : Memref sig .tc .vmem S6x112x128 .f32) (harg15 : arg15.IsWhole) (arg16 : Memref sig .tc .vmem S672x1536 .fp8e5m2) (harg16 : arg16.IsWhole) (arg17 : Memref sig .tc .vmem S6x1536 .f32) (harg17 : arg17.IsWhole) (arg18 : Memref sig .tc .vmem S672x1536 .bf16) (harg18 : arg18.IsWhole) (arg19 : Memref sig .tc .vmem S672x1536 .bf16) (harg19 : arg19.IsWhole) (hc0 : cond0_0 i) (hc1 : ¬cond0_1 i)
    (x0 : Vec Ideal S6x1536x128 .f32) (x1 : Vec Ideal S6x1536 .f32) (x2 : Vec Ideal S6x1536 .f32) (x3 : Vec Ideal S672x1536 .fp8e4m3) (x4 : Vec Ideal S6x1536 .f32) (x5 : Vec Ideal S6x112x1 .f32) (x6 : Vec Ideal S6x112x1 .f32) (x7 : Vec Ideal S1536x2304 .fp8e4m3) (x8 : Vec Ideal S1x1536 .f32) (x9 : Vec Ideal S672x2304 .fp8e4m3) (x10 : Vec Ideal S1x2304 .f32)

/-- The rescaled codes' stores spell the rescaled codes. -/
theorem canon_HS0_6 : View.canon (kernelRun0_A.sl.HS0_6 c arg1 harg1 arg2 harg2 arg3 harg3 arg6 harg6 arg7 harg7 x0 x1 x2 x5 x6 : List (View.Piece (Elt Ideal) S672x1536 .bf16)) = dbA x0 x1 x2 x5 x6 := by
  simp only [kernelRun0_A.sl.HS0_6, kernelRun0_A.sl.r_35, kernelRun0_A.sl.r_32, kernelRun0_A.sl.r_33, kernelRun0_A.sl.r_34, kernelRun0_A.sl.r_40, kernelRun0_A.sl.r_36, kernelRun0_A.sl.r_37, kernelRun0_A.sl.r_38, kernelRun0_A.sl.r_39, kernelRun0_A.sl.r_41, kernelRun0_A.sl.r_25, kernelRun0_A.sl.r_30, kernelRun0_A.sl.r_26, kernelRun0_A.sl.r_27, kernelRun0_A.sl.r_28, kernelRun0_A.sl.r_29, kernelRun0_A.sl.r_31, kernelRun0_A.sl.r_19, kernelRun0_A.sl.r_20, kernelRun0_A.sl.r_21, kernelRun0_A.sl.r_22, kernelRun0_A.sl.r_23, kernelRun0_A.sl.r_17, kernelRun0_A.sl.r_15, kernelRun0_A.sl.r_12, kernelRun0_A.sl.r_13, kernelRun0_A.sl.r_16, kernelRun0_A.sl.r_18, kernelRun0_A.sl.r_14, kernelRun0_A.sl.r_7, kernelRun0_A.sl.r_5, kernelRun0_A.sl.r_6, kernelRun0_A.sl.r_10, kernelRun0_A.sl.r_8, kernelRun0_A.sl.r_9, kernelRun0_A.sl.r_11, kernelRun0_A.sl.r, kernelRun0_A.sl.r_4, kernelRun0_A.sl.r_1, kernelRun0_A.sl.r_2, kernelRun0_A.sl.r_3, View.readAt_eq_ld, harg1.read_unread, harg2.read_unread, harg3.read_unread, harg6.read_unread, harg7.read_unread]
  simp only [db_0, db_1, db_2, db_3, db_4, db_5]
  refine rows_all ?_
  iterate 6 refine rows_step (m := 112) _ _ _ _ ?_ (dd_ld x0 x1 x2 x5 x6 (by decide) _ _ _ _ _ (by decide))
  exact fun _ _ h => absurd h (Nat.not_lt_zero _)

/-- The codes' stores spell the codes. -/
theorem canon_HS1_6 : View.canon (kernelRun0_A.sl.HS1_6 c arg1 harg1 arg2 harg2 arg3 harg3 arg6 harg6 arg7 harg7 x0 x1 x2 x5 x6 : List (View.Piece (Elt Ideal) S672x1536 .bf16)) = codeA x0 x1 x2 x5 x6 := by
  simp only [kernelRun0_A.sl.HS1_6, kernelRun0_A.sl.r_35, kernelRun0_A.sl.r_32, kernelRun0_A.sl.r_33, kernelRun0_A.sl.r_34, kernelRun0_A.sl.r_41, kernelRun0_A.sl.r_36, kernelRun0_A.sl.r_37, kernelRun0_A.sl.r_38, kernelRun0_A.sl.r_39, kernelRun0_A.sl.r_25, kernelRun0_A.sl.r_30, kernelRun0_A.sl.r_26, kernelRun0_A.sl.r_27, kernelRun0_A.sl.r_28, kernelRun0_A.sl.r_29, kernelRun0_A.sl.r_31, kernelRun0_A.sl.r_19, kernelRun0_A.sl.r_20, kernelRun0_A.sl.r_21, kernelRun0_A.sl.r_22, kernelRun0_A.sl.r_23, kernelRun0_A.sl.r_18, kernelRun0_A.sl.r_14, kernelRun0_A.sl.r_12, kernelRun0_A.sl.r_13, kernelRun0_A.sl.r_15, kernelRun0_A.sl.r_16, kernelRun0_A.sl.r_7, kernelRun0_A.sl.r_5, kernelRun0_A.sl.r_6, kernelRun0_A.sl.r_10, kernelRun0_A.sl.r_8, kernelRun0_A.sl.r_9, kernelRun0_A.sl.r, kernelRun0_A.sl.r_4, kernelRun0_A.sl.r_1, kernelRun0_A.sl.r_2, kernelRun0_A.sl.r_3, View.readAt_eq_ld, harg1.read_unread, harg2.read_unread, harg3.read_unread, harg6.read_unread, harg7.read_unread]
  simp only [code_0, code_1, code_2, code_3, code_4, code_5]
  refine rows_all ?_
  iterate 6 refine rows_step (m := 112) _ _ _ _ ?_ (cd_ld x0 x1 x2 x5 x6 (by decide) _ _ _ _ _ (by decide))
  exact fun _ _ h => absurd h (Nat.not_lt_zero _)

/-- The scratch after the node scales were multiplied in. -/
theorem canon_HS0_7 : View.canon (kernelRun0_A.sl.HS0_7 c arg1 harg1 arg2 harg2 arg3 harg3 arg6 harg6 arg7 harg7 arg9 harg9 arg18 x0 x1 x2 x5 x6 x8 : List (View.Piece (Elt Ideal) S672x1536 .bf16)) = dsA (dbA x0 x1 x2 x5 x6) x8 := by
  rw [kernelRun0_A.sl.HS0_7, View.canon_cons_unit_zero (by decide)]
  simp only [kernelRun0_A.sl.v1148, View.readAt_eq_ld, harg9.read_unread, readCov_ld, canon_HS0_6]
  funext y
  idx_vars y
  rw [pay122_apply]
  unfold dsA
  pointwise

/-- The stores of the activation gradient's block. -/
theorem list_11 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).1 : List (View.Piece (Elt Ideal) S1536x2304 .bf16)) = dxA (dbA x0 x1 x2 x5 x6) x9 x10 := by
  unfold kernelRun0_A
  dsimp only
  simp only [kernelRun0_A.sl.r_66, kernelRun0_A.sl.v1141, kernelRun0_A.sl.v1134, kernelRun0_A.sl.v1127, kernelRun0_A.sl.v1120, kernelRun0_A.sl.v1113, kernelRun0_A.sl.v1106, dxp0, dxp2, dxp3, dxp4, dxp5, View.readAt_eq_ld, harg10.read_unread, harg11.read_unread, readCov_ld, canon_HS0_6]
  refine rows_all ?_
  iterate 6 refine rows_step (m := 256) _ _ _ _ ?_ (dx_block (dbA x0 x1 x2 x5 x6) x9 x10 _ _ _)
  exact fun _ _ h => absurd h (Nat.not_lt_zero _)

/-- The stores of the codes' block. -/
theorem list_15 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.2.1 : List (View.Piece (Elt Ideal) S672x1536 .fp8e5m2)) = codeA x0 x1 x2 x5 x6 := by
  unfold kernelRun0_A
  dsimp only
  rw [View.canon_cons_unit_zero (by decide)]
  simp only [kernelRun0_A.sl.v687, readCov_ld, canon_HS1_6]
  funext y
  idx_vars y
  rw [pay84_apply]
  pointwise

/-- The stores of the scales' block. -/
theorem list_16 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.2.2.1 : List (View.Piece (Elt Ideal) S6x1536 .f32)) = scA x0 x1 x2 x5 x6 := by
  unfold kernelRun0_A
  dsimp only
  simp only [kernelRun0_A.sl.r_40, kernelRun0_A.sl.r_36, kernelRun0_A.sl.r_32, kernelRun0_A.sl.r_33, kernelRun0_A.sl.r_34, kernelRun0_A.sl.r_37, kernelRun0_A.sl.r_38, kernelRun0_A.sl.r_39, kernelRun0_A.sl.r_30, kernelRun0_A.sl.r_26, kernelRun0_A.sl.r_27, kernelRun0_A.sl.r_28, kernelRun0_A.sl.r_29, kernelRun0_A.sl.r_31, kernelRun0_A.sl.r_24, kernelRun0_A.sl.r_20, kernelRun0_A.sl.r_21, kernelRun0_A.sl.r_22, kernelRun0_A.sl.r_23, kernelRun0_A.sl.r_17, kernelRun0_A.sl.r_15, kernelRun0_A.sl.r_12, kernelRun0_A.sl.r_13, kernelRun0_A.sl.r_16, kernelRun0_A.sl.r_11, kernelRun0_A.sl.r_8, kernelRun0_A.sl.r_5, kernelRun0_A.sl.r_6, kernelRun0_A.sl.r_9, kernelRun0_A.sl.r_4, kernelRun0_A.sl.r_1, kernelRun0_A.sl.r_2, kernelRun0_A.sl.r_3, View.readAt_eq_ld, harg1.read_unread, harg2.read_unread, harg3.read_unread, harg6.read_unread, harg7.read_unread]
  simp only [scale_0, scale_1, scale_2, scale_3, scale_4, scale_5]
  refine rows_all ?_
  iterate 6 refine rows_step (m := 1) _ _ _ _ ?_ (sc_ld x0 x1 x2 x5 x6 (by decide) _ _ _ _ _)
  exact fun _ _ h => absurd h (Nat.not_lt_zero _)

/-- The stores of the weight gradient's block. -/
theorem list_12 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.1 : List (View.Piece (Elt Ideal) S672x2304 .f32)) = dwA zW (dbA x0 x1 x2 x5 x6) x8 x7 := by
  unfold kernelRun0_A
  dsimp only
  refine Cols.done (X := zW) ?_
  iterate 9
    refine Cols.step (m := 256) ?_ fun hr => by
      simp only [kernelRun0_A.sl.r_68, kernelRun0_A.sl.v1220, kernelRun0_A.sl.v1158, kernelRun0_A.sl.v1180, kernelRun0_A.sl.v1196, kernelRun0_A.sl.r_67, kernelRun0_A.sl.v1164, kernelRun0_A.sl.v1156, kernelRun0_A.sl.v1212, kernelRun0_A.sl.v1188, kernelRun0_A.sl.v1172, kernelRun0_A.sl.v1204, dwp1, dwp2, dwp3, dwp4, dwp5, dwp6, dwp7, dwp8, View.readAt_eq_ld, harg8.read_unread, readCov_ld, canon_HS0_7]
      exact dw_block zW (dbA x0 x1 x2 x5 x6) x8 x7 _ _ _ _ hr
  refine ⟨fun _ _ h => absurd h (Nat.not_lt_zero _), fun d k _ => ?_⟩
  unfold kernelRun0_A.sl.H12_1
  rw [View.canon_cons_unit_zero (by decide), pay16_apply]
  rfl

/-- The stores of an attention-vector gradient's block. -/
theorem list_13 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.1 : List (View.Piece (Elt Ideal) S6x112x128 .f32)) = daA zL x3 x4 x1 := by
  unfold kernelRun0_A
  dsimp only
  refine Hds.done (X := zL) ?_
  iterate 3
    refine Hds.step ?_ fun hr => by
      simp only [kernelRun0_A.sl.r_65, kernelRun0_A.sl.r_58, kernelRun0_A.sl.v1044, kernelRun0_A.sl.r_57, kernelRun0_A.sl.r_50, kernelRun0_A.sl.v906, kernelRun0_A.sl.r_52, kernelRun0_A.sl.v838, kernelRun0_A.sl.r_49, kernelRun0_A.sl.r_42, kernelRun0_A.sl.v768, kernelRun0_A.sl.r_45, kernelRun0_A.sl.v700, kernelRun0_A.sl.r_61, kernelRun0_A.sl.v976, src0, src1, src2, src3, src4, src5, View.readAt_eq_ld, harg2.read_unread, harg4.read_unread, harg5.read_unread, readCov_ld]
      exact hi_block zL x3 x4 x1 _ _ _ _ _ hr (by decide)
    refine Hds.step ?_ fun hr => by
      simp only [kernelRun0_A.sl.r_65, kernelRun0_A.sl.r_58, kernelRun0_A.sl.v1044, kernelRun0_A.sl.r_57, kernelRun0_A.sl.r_50, kernelRun0_A.sl.v906, kernelRun0_A.sl.r_52, kernelRun0_A.sl.v838, kernelRun0_A.sl.r_49, kernelRun0_A.sl.r_42, kernelRun0_A.sl.v768, kernelRun0_A.sl.r_45, kernelRun0_A.sl.v700, kernelRun0_A.sl.r_61, kernelRun0_A.sl.v976, src0, src1, src2, src3, src4, src5, View.readAt_eq_ld, harg2.read_unread, harg4.read_unread, harg5.read_unread, readCov_ld]
      exact lo_block zL x3 x4 x1 _ _ _ _ _ hr (by decide)
  refine ⟨fun _ _ _ h => absurd h (Nat.not_lt_zero _), fun h f l _ => ?_⟩
  unfold kernelRun0_A.sl.H13_1
  rw [View.canon_cons_unit_zero (by decide), pay17_apply]
  rfl

/-- The stores of an attention-vector gradient's block. -/
theorem list_14 : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.1 : List (View.Piece (Elt Ideal) S6x112x128 .f32)) = daA zL x3 x4 x2 := by
  unfold kernelRun0_A
  dsimp only
  refine Hds.done (X := zL) ?_
  iterate 3
    refine Hds.step ?_ fun hr => by
      simp only [kernelRun0_A.sl.r_64, kernelRun0_A.sl.r_58, kernelRun0_A.sl.r_33, kernelRun0_A.sl.v1075, kernelRun0_A.sl.r_62, kernelRun0_A.sl.r_59, kernelRun0_A.sl.r_60, kernelRun0_A.sl.r_63, kernelRun0_A.sl.v1007, kernelRun0_A.sl.r_48, kernelRun0_A.sl.r_42, kernelRun0_A.sl.r_6, kernelRun0_A.sl.v799, kernelRun0_A.sl.r_55, kernelRun0_A.sl.r_50, kernelRun0_A.sl.r_56, kernelRun0_A.sl.v937, kernelRun0_A.sl.r_53, kernelRun0_A.sl.r_51, kernelRun0_A.sl.r_12, kernelRun0_A.sl.r_54, kernelRun0_A.sl.v869, kernelRun0_A.sl.r_46, kernelRun0_A.sl.r_43, kernelRun0_A.sl.r_44, kernelRun0_A.sl.r_47, kernelRun0_A.sl.v731, dst0, dst1, dst2, dst3, dst4, dst5, View.readAt_eq_ld, harg3.read_unread, harg4.read_unread, harg5.read_unread, readCov_ld]
      exact hi_block zL x3 x4 x2 _ _ _ _ _ hr (by decide)
    refine Hds.step ?_ fun hr => by
      simp only [kernelRun0_A.sl.r_64, kernelRun0_A.sl.r_58, kernelRun0_A.sl.r_33, kernelRun0_A.sl.v1075, kernelRun0_A.sl.r_62, kernelRun0_A.sl.r_59, kernelRun0_A.sl.r_60, kernelRun0_A.sl.r_63, kernelRun0_A.sl.v1007, kernelRun0_A.sl.r_48, kernelRun0_A.sl.r_42, kernelRun0_A.sl.r_6, kernelRun0_A.sl.v799, kernelRun0_A.sl.r_55, kernelRun0_A.sl.r_50, kernelRun0_A.sl.r_56, kernelRun0_A.sl.v937, kernelRun0_A.sl.r_53, kernelRun0_A.sl.r_51, kernelRun0_A.sl.r_12, kernelRun0_A.sl.r_54, kernelRun0_A.sl.v869, kernelRun0_A.sl.r_46, kernelRun0_A.sl.r_43, kernelRun0_A.sl.r_44, kernelRun0_A.sl.r_47, kernelRun0_A.sl.v731, dst0, dst1, dst2, dst3, dst4, dst5, View.readAt_eq_ld, harg3.read_unread, harg4.read_unread, harg5.read_unread, readCov_ld]
      exact lo_block zL x3 x4 x2 _ _ _ _ _ hr (by decide)
  refine ⟨fun _ _ _ h => absurd h (Nat.not_lt_zero _), fun h f l _ => ?_⟩
  unfold kernelRun0_A.sl.H14_1
  rw [View.canon_cons_unit_zero (by decide), pay18_apply]
  rfl

/-- What the point leaves in output 11's block. -/
theorem out_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dxA (dbA x0 x1 x2 x5 x6) x9 x10 := by
  unfold out0_A_11
  rw [View.read_writes_junk_eq_canon]
  exact list_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

/-- What the point leaves in output 12's block. -/
theorem out_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = dwA zW (dbA x0 x1 x2 x5 x6) x8 x7 := by
  unfold out0_A_12
  rw [View.read_writes_junk_eq_canon]
  exact list_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

/-- What the point leaves in output 13's block. -/
theorem out_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = daA zL x3 x4 x1 := by
  unfold out0_A_13
  rw [View.read_writes_junk_eq_canon]
  exact list_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

/-- What the point leaves in output 14's block. -/
theorem out_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = daA zL x3 x4 x2 := by
  unfold out0_A_14
  rw [View.read_writes_junk_eq_canon]
  exact list_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

/-- What the point leaves in output 15's block. -/
theorem out_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = codeA x0 x1 x2 x5 x6 := by
  unfold out0_A_15
  rw [View.read_writes_junk_eq_canon]
  exact list_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

/-- What the point leaves in output 16's block. -/
theorem out_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = scA x0 x1 x2 x5 x6 := by
  unfold out0_A_16
  rw [View.read_writes_junk_eq_canon]
  exact list_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10

end Cert.KernelIdeal.RunA
end
-- ==== Proof.KernelRunB.lean ====
module

public import proofs.«01_k».proof.Proof.KernelPieces

/-!
What a grid point of kind B leaves in each of its output blocks, as the closed-form arrays of `KernelPieces`.
-/

@[expose] public section
set_option maxRecDepth 16384
noncomputable section
namespace Cert.KernelIdeal.RunB
open Cert.KernelIdeal Cert.KernelIdeal.Gen Cert.KernelIdeal.Heads Idealize.ShloMosaic Idealize.ShloMosaic.TcCoe Idealize.SL Idealize.SL.Sem

variable (c : Dev nD) (i : grid0.Coords) (arg1 : Memref sig .tc .vmem S6x1536x128 .f32) (harg1 : arg1.IsWhole) (arg2 : Memref sig .tc .vmem S6x1536 .f32) (harg2 : arg2.IsWhole) (arg3 : Memref sig .tc .vmem S6x1536 .f32) (harg3 : arg3.IsWhole) (arg4 : Memref sig .tc .vmem S672x1536 .fp8e4m3) (harg4 : arg4.IsWhole) (arg5 : Memref sig .tc .vmem S6x1536 .f32) (harg5 : arg5.IsWhole) (arg6 : Memref sig .tc .vmem S6x112x1 .f32) (harg6 : arg6.IsWhole) (arg7 : Memref sig .tc .vmem S6x112x1 .f32) (harg7 : arg7.IsWhole) (arg8 : Memref sig .tc .vmem S1536x2304 .fp8e4m3) (harg8 : arg8.IsWhole) (arg9 : Memref sig .tc .vmem S1x1536 .f32) (harg9 : arg9.IsWhole) (arg10 : Memref sig .tc .vmem S672x2304 .fp8e4m3) (harg10 : arg10.IsWhole) (arg11 : Memref sig .tc .vmem S1x2304 .f32) (harg11 : arg11.IsWhole) (arg12 : Memref sig .tc .vmem S1536x2304 .bf16) (harg12 : arg12.IsWhole) (arg13 : Memref sig .tc .vmem S672x2304 .f32) (harg13 : arg13.IsWhole) (arg14 : Memref sig .tc .vmem S6x112x128 .f32) (harg14 : arg14.IsWhole) (arg15 : Memref sig .tc .vmem S6x112x128 .f32) (harg15 : arg15.IsWhole) (arg16 : Memref sig .tc .vmem S672x1536 .fp8e5m2) (harg16 : arg16.IsWhole) (arg17 : Memref sig .tc .vmem S6x1536 .f32) (harg17 : arg17.IsWhole) (arg18 : Memref sig .tc .vmem S672x1536 .bf16) (harg18 : arg18.IsWhole) (arg19 : Memref sig .tc .vmem S672x1536 .bf16) (harg19 : arg19.IsWhole) (hc0 : ¬cond0_0 i) (hc1 : ¬cond0_1 i)
    (x0 : Vec Ideal S6x1536x128 .f32) (x1 : Vec Ideal S6x1536 .f32) (x2 : Vec Ideal S6x1536 .f32) (x3 : Vec Ideal S672x1536 .fp8e4m3) (x4 : Vec Ideal S6x1536 .f32) (x5 : Vec Ideal S6x112x1 .f32) (x6 : Vec Ideal S6x112x1 .f32) (x7 : Vec Ideal S1536x2304 .fp8e4m3) (x8 : Vec Ideal S1x1536 .f32) (x9 : Vec Ideal S672x2304 .fp8e4m3) (x10 : Vec Ideal S1x2304 .f32) (xo12 : Vec Ideal S672x2304 .f32) (xo13 : Vec Ideal S6x112x128 .f32) (xo14 : Vec Ideal S6x112x128 .f32)

/-- The rescaled codes' stores spell the rescaled codes. -/
theorem canon_HS0_6 : View.canon (kernelRun0_B.sl.HS0_6 c arg1 harg1 arg2 harg2 arg3 harg3 arg6 harg6 arg7 harg7 x0 x1 x2 x5 x6 : List (View.Piece (Elt Ideal) S672x1536 .bf16)) = dbA x0 x1 x2 x5 x6 := by
  simp only [kernelRun0_B.sl.HS0_6, kernelRun0_B.sl.r_35, kernelRun0_B.sl.r_32, kernelRun0_B.sl.r_33, kernelRun0_B.sl.r_34, kernelRun0_B.sl.r_40, kernelRun0_B.sl.r_36, kernelRun0_B.sl.r_37, kernelRun0_B.sl.r_38, kernelRun0_B.sl.r_39, kernelRun0_B.sl.r_41, kernelRun0_B.sl.r_25, kernelRun0_B.sl.r_30, kernelRun0_B.sl.r_26, kernelRun0_B.sl.r_27, kernelRun0_B.sl.r_28, kernelRun0_B.sl.r_29, kernelRun0_B.sl.r_31, kernelRun0_B.sl.r_19, kernelRun0_B.sl.r_20, kernelRun0_B.sl.r_21, kernelRun0_B.sl.r_22, kernelRun0_B.sl.r_23, kernelRun0_B.sl.r_17, kernelRun0_B.sl.r_15, kernelRun0_B.sl.r_12, kernelRun0_B.sl.r_13, kernelRun0_B.sl.r_16, kernelRun0_B.sl.r_18, kernelRun0_B.sl.r_14, kernelRun0_B.sl.r_7, kernelRun0_B.sl.r_5, kernelRun0_B.sl.r_6, kernelRun0_B.sl.r_10, kernelRun0_B.sl.r_8, kernelRun0_B.sl.r_9, kernelRun0_B.sl.r_11, kernelRun0_B.sl.r, kernelRun0_B.sl.r_4, kernelRun0_B.sl.r_1, kernelRun0_B.sl.r_2, kernelRun0_B.sl.r_3, View.readAt_eq_ld, harg1.read_unread, harg2.read_unread, harg3.read_unread, harg6.read_unread, harg7.read_unread]
  simp only [db_0, db_1, db_2, db_3, db_4, db_5]
  refine rows_all ?_
  iterate 6 refine rows_step (m := 112) _ _ _ _ ?_ (dd_ld x0 x1 x2 x5 x6 (by decide) _ _ _ _ _ (by decide))
  exact fun _ _ h => absurd h (Nat.not_lt_zero _)

/-- The codes' stores spell the codes. -/
theorem canon_HS1_6 : View.canon (kernelRun0_B.sl.HS1_6 c arg1 harg1 arg2 harg2 arg3 harg3 arg6 harg6 arg7 harg7 x0 x1 x2 x5 x6 : List (View.Piece (Elt Ideal) S672x1536 .bf16)) = codeA x0 x1 x2 x5 x6 := by
  simp only [kernelRun0_B.sl.HS1_6, kernelRun0_B.sl.r_35, kernelRun0_B.sl.r_32, kernelRun0_B.sl.r_33, kernelRun0_B.sl.r_34, kernelRun0_B.sl.r_41, kernelRun0_B.sl.r_36, kernelRun0_B.sl.r_37, kernelRun0_B.sl.r_38, kernelRun0_B.sl.r_39, kernelRun0_B.sl.r_25, kernelRun0_B.sl.r_30, kernelRun0_B.sl.r_26, kernelRun0_B.sl.r_27, kernelRun0_B.sl.r_28, kernelRun0_B.sl.r_29, kernelRun0_B.sl.r_31, kernelRun0_B.sl.r_19, kernelRun0_B.sl.r_20, kernelRun0_B.sl.r_21, kernelRun0_B.sl.r_22, kernelRun0_B.sl.r_23, kernelRun0_B.sl.r_18, kernelRun0_B.sl.r_14, kernelRun0_B.sl.r_12, kernelRun0_B.sl.r_13, kernelRun0_B.sl.r_15, kernelRun0_B.sl.r_16, kernelRun0_B.sl.r_7, kernelRun0_B.sl.r_5, kernelRun0_B.sl.r_6, kernelRun0_B.sl.r_10, kernelRun0_B.sl.r_8, kernelRun0_B.sl.r_9, kernelRun0_B.sl.r, kernelRun0_B.sl.r_4, kernelRun0_B.sl.r_1, kernelRun0_B.sl.r_2, kernelRun0_B.sl.r_3, View.readAt_eq_ld, harg1.read_unread, harg2.read_unread, harg3.read_unread, harg6.read_unread, harg7.read_unread]
  simp only [code_0, code_1, code_2, code_3, code_4, code_5]
  refine rows_all ?_
  iterate 6 refine rows_step (m := 112) _ _ _ _ ?_ (cd_ld x0 x1 x2 x5 x6 (by decide) _ _ _ _ _ (by decide))
  exact fun _ _ h => absurd h (Nat.not_lt_zero _)

/-- The scratch after the node scales were multiplied in. -/
theorem canon_HS0_7 : View.canon (kernelRun0_B.sl.HS0_7 c arg1 harg1 arg2 harg2 arg3 harg3 arg6 harg6 arg7 harg7 arg9 harg9 arg18 x0 x1 x2 x5 x6 x8 : List (View.Piece (Elt Ideal) S672x1536 .bf16)) = dsA (dbA x0 x1 x2 x5 x6) x8 := by
  rw [kernelRun0_B.sl.HS0_7, View.canon_cons_unit_zero (by decide)]
  simp only [kernelRun0_B.sl.v1148, View.readAt_eq_ld, harg9.read_unread, readCov_ld, canon_HS0_6]
  funext y
  idx_vars y
  rw [pay122_apply]
  unfold dsA
  pointwise

/-- The stores of the activation gradient's block. -/
theorem list_11 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).1 : List (View.Piece (Elt Ideal) S1536x2304 .bf16)) = dxA (dbA x0 x1 x2 x5 x6) x9 x10 := by
  unfold kernelRun0_B
  dsimp only
  simp only [kernelRun0_B.sl.r_66, kernelRun0_B.sl.v1141, kernelRun0_B.sl.v1134, kernelRun0_B.sl.v1127, kernelRun0_B.sl.v1120, kernelRun0_B.sl.v1113, kernelRun0_B.sl.v1106, dxp0, dxp2, dxp3, dxp4, dxp5, View.readAt_eq_ld, harg10.read_unread, harg11.read_unread, readCov_ld, canon_HS0_6]
  refine rows_all ?_
  iterate 6 refine rows_step (m := 256) _ _ _ _ ?_ (dx_block (dbA x0 x1 x2 x5 x6) x9 x10 _ _ _)
  exact fun _ _ h => absurd h (Nat.not_lt_zero _)

/-- The stores of the codes' block. -/
theorem list_15 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.2.1 : List (View.Piece (Elt Ideal) S672x1536 .fp8e5m2)) = codeA x0 x1 x2 x5 x6 := by
  unfold kernelRun0_B
  dsimp only
  rw [View.canon_cons_unit_zero (by decide)]
  simp only [kernelRun0_B.sl.v687, readCov_ld, canon_HS1_6]
  funext y
  idx_vars y
  rw [pay84_apply]
  pointwise

/-- The stores of the scales' block. -/
theorem list_16 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.2.2.1 : List (View.Piece (Elt Ideal) S6x1536 .f32)) = scA x0 x1 x2 x5 x6 := by
  unfold kernelRun0_B
  dsimp only
  simp only [kernelRun0_B.sl.r_40, kernelRun0_B.sl.r_36, kernelRun0_B.sl.r_32, kernelRun0_B.sl.r_33, kernelRun0_B.sl.r_34, kernelRun0_B.sl.r_37, kernelRun0_B.sl.r_38, kernelRun0_B.sl.r_39, kernelRun0_B.sl.r_30, kernelRun0_B.sl.r_26, kernelRun0_B.sl.r_27, kernelRun0_B.sl.r_28, kernelRun0_B.sl.r_29, kernelRun0_B.sl.r_31, kernelRun0_B.sl.r_24, kernelRun0_B.sl.r_20, kernelRun0_B.sl.r_21, kernelRun0_B.sl.r_22, kernelRun0_B.sl.r_23, kernelRun0_B.sl.r_17, kernelRun0_B.sl.r_15, kernelRun0_B.sl.r_12, kernelRun0_B.sl.r_13, kernelRun0_B.sl.r_16, kernelRun0_B.sl.r_11, kernelRun0_B.sl.r_8, kernelRun0_B.sl.r_5, kernelRun0_B.sl.r_6, kernelRun0_B.sl.r_9, kernelRun0_B.sl.r_4, kernelRun0_B.sl.r_1, kernelRun0_B.sl.r_2, kernelRun0_B.sl.r_3, View.readAt_eq_ld, harg1.read_unread, harg2.read_unread, harg3.read_unread, harg6.read_unread, harg7.read_unread]
  simp only [scale_0, scale_1, scale_2, scale_3, scale_4, scale_5]
  refine rows_all ?_
  iterate 6 refine rows_step (m := 1) _ _ _ _ ?_ (sc_ld x0 x1 x2 x5 x6 (by decide) _ _ _ _ _)
  exact fun _ _ h => absurd h (Nat.not_lt_zero _)

/-- The stores of the weight gradient's block. -/
theorem list_12 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.1 : List (View.Piece (Elt Ideal) S672x2304 .f32)) = dwA xo12 (dbA x0 x1 x2 x5 x6) x8 x7 := by
  unfold kernelRun0_B
  dsimp only
  simp only [kernelRun0_B.sl.r_68, kernelRun0_B.sl.v1220, kernelRun0_B.sl.v1158, kernelRun0_B.sl.v1212, kernelRun0_B.sl.v1204, kernelRun0_B.sl.v1196, kernelRun0_B.sl.v1188, kernelRun0_B.sl.v1180, kernelRun0_B.sl.v1172, kernelRun0_B.sl.r_67, kernelRun0_B.sl.v1164, dwp1, dwp2, dwp3, dwp4, dwp5, dwp6, dwp7, dwp8, View.readAt_eq_ld, harg8.read_unread, harg13.read_unread, readCov_ld, canon_HS0_7]
  refine cols_all ?_
  iterate 9 refine cols_step (m := 256) _ _ _ _ ?_ (dw_block xo12 (dbA x0 x1 x2 x5 x6) x8 x7 _ _ _ xo12 fun _ _ _ => rfl)
  exact fun _ _ h => absurd h (Nat.not_lt_zero _)

/-- The stores of an attention-vector gradient's block. -/
theorem list_13 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.1 : List (View.Piece (Elt Ideal) S6x112x128 .f32)) = daA xo13 x3 x4 x1 := by
  unfold kernelRun0_B
  dsimp only
  simp only [kernelRun0_B.sl.r_65, kernelRun0_B.sl.r_58, kernelRun0_B.sl.v1044, kernelRun0_B.sl.r_61, kernelRun0_B.sl.v976, kernelRun0_B.sl.r_57, kernelRun0_B.sl.r_50, kernelRun0_B.sl.v906, kernelRun0_B.sl.r_52, kernelRun0_B.sl.v838, kernelRun0_B.sl.r_49, kernelRun0_B.sl.r_42, kernelRun0_B.sl.v768, kernelRun0_B.sl.r_45, src0, src1, src2, src3, src4, src5, View.readAt_eq_ld, harg2.read_unread, harg4.read_unread, harg5.read_unread, harg14.read_unread]
  refine heads_all ?_
  iterate 3
    refine heads_step _ _ _ _ ?_ (hi_block xo13 x3 x4 x1 _ _ _ _ xo13 (fun _ _ _ _ => rfl) (by decide))
    refine heads_step _ _ _ _ ?_ (lo_block xo13 x3 x4 x1 _ _ _ _ xo13 (fun _ _ _ _ => rfl) (by decide))
  exact fun _ _ _ h => absurd h (Nat.not_lt_zero _)

/-- The stores of an attention-vector gradient's block. -/
theorem list_14 : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.1 : List (View.Piece (Elt Ideal) S6x112x128 .f32)) = daA xo14 x3 x4 x2 := by
  unfold kernelRun0_B
  dsimp only
  simp only [kernelRun0_B.sl.r_64, kernelRun0_B.sl.r_58, kernelRun0_B.sl.r_33, kernelRun0_B.sl.v1075, kernelRun0_B.sl.r_62, kernelRun0_B.sl.r_59, kernelRun0_B.sl.r_60, kernelRun0_B.sl.r_63, kernelRun0_B.sl.v1007, kernelRun0_B.sl.r_55, kernelRun0_B.sl.r_50, kernelRun0_B.sl.r_56, kernelRun0_B.sl.v937, kernelRun0_B.sl.r_53, kernelRun0_B.sl.r_51, kernelRun0_B.sl.r_12, kernelRun0_B.sl.r_54, kernelRun0_B.sl.v869, kernelRun0_B.sl.r_48, kernelRun0_B.sl.r_42, kernelRun0_B.sl.r_6, kernelRun0_B.sl.v799, kernelRun0_B.sl.r_46, kernelRun0_B.sl.r_43, kernelRun0_B.sl.r_44, kernelRun0_B.sl.r_47, dst0, dst1, dst2, dst3, dst4, dst5, View.readAt_eq_ld, harg3.read_unread, harg4.read_unread, harg5.read_unread, harg15.read_unread]
  refine heads_all ?_
  iterate 3
    refine heads_step _ _ _ _ ?_ (hi_block xo14 x3 x4 x2 _ _ _ _ xo14 (fun _ _ _ _ => rfl) (by decide))
    refine heads_step _ _ _ _ ?_ (lo_block xo14 x3 x4 x2 _ _ _ _ xo14 (fun _ _ _ _ => rfl) (by decide))
  exact fun _ _ _ h => absurd h (Nat.not_lt_zero _)

/-- What the point leaves in output 11's block. -/
theorem out_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = dxA (dbA x0 x1 x2 x5 x6) x9 x10 := by
  unfold out0_B_11
  rw [View.read_writes_junk_eq_canon]
  exact list_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 12's block. -/
theorem out_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = dwA xo12 (dbA x0 x1 x2 x5 x6) x8 x7 := by
  unfold out0_B_12
  rw [View.read_writes_junk_eq_canon]
  exact list_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 13's block. -/
theorem out_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = daA xo13 x3 x4 x1 := by
  unfold out0_B_13
  rw [View.read_writes_junk_eq_canon]
  exact list_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 14's block. -/
theorem out_14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = daA xo14 x3 x4 x2 := by
  unfold out0_B_14
  rw [View.read_writes_junk_eq_canon]
  exact list_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 15's block. -/
theorem out_15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = codeA x0 x1 x2 x5 x6 := by
  unfold out0_B_15
  rw [View.read_writes_junk_eq_canon]
  exact list_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 16's block. -/
theorem out_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = scA x0 x1 x2 x5 x6 := by
  unfold out0_B_16
  rw [View.read_writes_junk_eq_canon]
  exact list_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

end Cert.KernelIdeal.RunB
end
-- ==== Proof.KernelRunC.lean ====
module

public import proofs.«01_k».proof.Proof.KernelPieces

/-!
What a grid point of kind C leaves in each of its output blocks, as the closed-form arrays of `KernelPieces`.
-/

@[expose] public section
set_option maxRecDepth 16384
noncomputable section
namespace Cert.KernelIdeal.RunC
open Cert.KernelIdeal Cert.KernelIdeal.Gen Cert.KernelIdeal.Heads Idealize.ShloMosaic Idealize.ShloMosaic.TcCoe Idealize.SL Idealize.SL.Sem

variable (c : Dev nD) (i : grid0.Coords) (arg1 : Memref sig .tc .vmem S6x1536x128 .f32) (harg1 : arg1.IsWhole) (arg2 : Memref sig .tc .vmem S6x1536 .f32) (harg2 : arg2.IsWhole) (arg3 : Memref sig .tc .vmem S6x1536 .f32) (harg3 : arg3.IsWhole) (arg4 : Memref sig .tc .vmem S672x1536 .fp8e4m3) (harg4 : arg4.IsWhole) (arg5 : Memref sig .tc .vmem S6x1536 .f32) (harg5 : arg5.IsWhole) (arg6 : Memref sig .tc .vmem S6x112x1 .f32) (harg6 : arg6.IsWhole) (arg7 : Memref sig .tc .vmem S6x112x1 .f32) (harg7 : arg7.IsWhole) (arg8 : Memref sig .tc .vmem S1536x2304 .fp8e4m3) (harg8 : arg8.IsWhole) (arg9 : Memref sig .tc .vmem S1x1536 .f32) (harg9 : arg9.IsWhole) (arg10 : Memref sig .tc .vmem S672x2304 .fp8e4m3) (harg10 : arg10.IsWhole) (arg11 : Memref sig .tc .vmem S1x2304 .f32) (harg11 : arg11.IsWhole) (arg12 : Memref sig .tc .vmem S1536x2304 .bf16) (harg12 : arg12.IsWhole) (arg13 : Memref sig .tc .vmem S672x2304 .f32) (harg13 : arg13.IsWhole) (arg14 : Memref sig .tc .vmem S6x112x128 .f32) (harg14 : arg14.IsWhole) (arg15 : Memref sig .tc .vmem S6x112x128 .f32) (harg15 : arg15.IsWhole) (arg16 : Memref sig .tc .vmem S672x1536 .fp8e5m2) (harg16 : arg16.IsWhole) (arg17 : Memref sig .tc .vmem S6x1536 .f32) (harg17 : arg17.IsWhole) (arg18 : Memref sig .tc .vmem S672x1536 .bf16) (harg18 : arg18.IsWhole) (arg19 : Memref sig .tc .vmem S672x1536 .bf16) (harg19 : arg19.IsWhole) (hc0 : ¬cond0_0 i) (hc1 : cond0_1 i)
    (x0 : Vec Ideal S6x1536x128 .f32) (x1 : Vec Ideal S6x1536 .f32) (x2 : Vec Ideal S6x1536 .f32) (x3 : Vec Ideal S672x1536 .fp8e4m3) (x4 : Vec Ideal S6x1536 .f32) (x5 : Vec Ideal S6x112x1 .f32) (x6 : Vec Ideal S6x112x1 .f32) (x7 : Vec Ideal S1536x2304 .fp8e4m3) (x8 : Vec Ideal S1x1536 .f32) (x9 : Vec Ideal S672x2304 .fp8e4m3) (x10 : Vec Ideal S1x2304 .f32) (xo12 : Vec Ideal S672x2304 .f32) (xo13 : Vec Ideal S6x112x128 .f32) (xo14 : Vec Ideal S6x112x128 .f32)

/-- The rescaled codes' stores spell the rescaled codes. -/
theorem canon_HS0_6 : View.canon (kernelRun0_C.sl.HS0_6 c arg1 harg1 arg2 harg2 arg3 harg3 arg6 harg6 arg7 harg7 x0 x1 x2 x5 x6 : List (View.Piece (Elt Ideal) S672x1536 .bf16)) = dbA x0 x1 x2 x5 x6 := by
  simp only [kernelRun0_C.sl.HS0_6, kernelRun0_C.sl.r_35, kernelRun0_C.sl.r_32, kernelRun0_C.sl.r_33, kernelRun0_C.sl.r_34, kernelRun0_C.sl.r_40, kernelRun0_C.sl.r_36, kernelRun0_C.sl.r_37, kernelRun0_C.sl.r_38, kernelRun0_C.sl.r_39, kernelRun0_C.sl.r_41, kernelRun0_C.sl.r_25, kernelRun0_C.sl.r_30, kernelRun0_C.sl.r_26, kernelRun0_C.sl.r_27, kernelRun0_C.sl.r_28, kernelRun0_C.sl.r_29, kernelRun0_C.sl.r_31, kernelRun0_C.sl.r_19, kernelRun0_C.sl.r_20, kernelRun0_C.sl.r_21, kernelRun0_C.sl.r_22, kernelRun0_C.sl.r_23, kernelRun0_C.sl.r_17, kernelRun0_C.sl.r_15, kernelRun0_C.sl.r_12, kernelRun0_C.sl.r_13, kernelRun0_C.sl.r_16, kernelRun0_C.sl.r_18, kernelRun0_C.sl.r_14, kernelRun0_C.sl.r_7, kernelRun0_C.sl.r_5, kernelRun0_C.sl.r_6, kernelRun0_C.sl.r_10, kernelRun0_C.sl.r_8, kernelRun0_C.sl.r_9, kernelRun0_C.sl.r_11, kernelRun0_C.sl.r, kernelRun0_C.sl.r_4, kernelRun0_C.sl.r_1, kernelRun0_C.sl.r_2, kernelRun0_C.sl.r_3, View.readAt_eq_ld, harg1.read_unread, harg2.read_unread, harg3.read_unread, harg6.read_unread, harg7.read_unread]
  simp only [db_0, db_1, db_2, db_3, db_4, db_5]
  refine rows_all ?_
  iterate 6 refine rows_step (m := 112) _ _ _ _ ?_ (dd_ld x0 x1 x2 x5 x6 (by decide) _ _ _ _ _ (by decide))
  exact fun _ _ h => absurd h (Nat.not_lt_zero _)

/-- The codes' stores spell the codes. -/
theorem canon_HS1_6 : View.canon (kernelRun0_C.sl.HS1_6 c arg1 harg1 arg2 harg2 arg3 harg3 arg6 harg6 arg7 harg7 x0 x1 x2 x5 x6 : List (View.Piece (Elt Ideal) S672x1536 .bf16)) = codeA x0 x1 x2 x5 x6 := by
  simp only [kernelRun0_C.sl.HS1_6, kernelRun0_C.sl.r_35, kernelRun0_C.sl.r_32, kernelRun0_C.sl.r_33, kernelRun0_C.sl.r_34, kernelRun0_C.sl.r_41, kernelRun0_C.sl.r_36, kernelRun0_C.sl.r_37, kernelRun0_C.sl.r_38, kernelRun0_C.sl.r_39, kernelRun0_C.sl.r_25, kernelRun0_C.sl.r_30, kernelRun0_C.sl.r_26, kernelRun0_C.sl.r_27, kernelRun0_C.sl.r_28, kernelRun0_C.sl.r_29, kernelRun0_C.sl.r_31, kernelRun0_C.sl.r_19, kernelRun0_C.sl.r_20, kernelRun0_C.sl.r_21, kernelRun0_C.sl.r_22, kernelRun0_C.sl.r_23, kernelRun0_C.sl.r_18, kernelRun0_C.sl.r_14, kernelRun0_C.sl.r_12, kernelRun0_C.sl.r_13, kernelRun0_C.sl.r_15, kernelRun0_C.sl.r_16, kernelRun0_C.sl.r_7, kernelRun0_C.sl.r_5, kernelRun0_C.sl.r_6, kernelRun0_C.sl.r_10, kernelRun0_C.sl.r_8, kernelRun0_C.sl.r_9, kernelRun0_C.sl.r, kernelRun0_C.sl.r_4, kernelRun0_C.sl.r_1, kernelRun0_C.sl.r_2, kernelRun0_C.sl.r_3, View.readAt_eq_ld, harg1.read_unread, harg2.read_unread, harg3.read_unread, harg6.read_unread, harg7.read_unread]
  simp only [code_0, code_1, code_2, code_3, code_4, code_5]
  refine rows_all ?_
  iterate 6 refine rows_step (m := 112) _ _ _ _ ?_ (cd_ld x0 x1 x2 x5 x6 (by decide) _ _ _ _ _ (by decide))
  exact fun _ _ h => absurd h (Nat.not_lt_zero _)

/-- The scratch after the node scales were multiplied in. -/
theorem canon_HS0_7 : View.canon (kernelRun0_C.sl.HS0_7 c arg1 harg1 arg2 harg2 arg3 harg3 arg6 harg6 arg7 harg7 arg9 harg9 arg18 x0 x1 x2 x5 x6 x8 : List (View.Piece (Elt Ideal) S672x1536 .bf16)) = dsA (dbA x0 x1 x2 x5 x6) x8 := by
  rw [kernelRun0_C.sl.HS0_7, View.canon_cons_unit_zero (by decide)]
  simp only [kernelRun0_C.sl.v1148, View.readAt_eq_ld, harg9.read_unread, readCov_ld, canon_HS0_6]
  funext y
  idx_vars y
  rw [pay122_apply]
  unfold dsA
  pointwise

/-- The stores of the activation gradient's block. -/
theorem list_11 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).1 : List (View.Piece (Elt Ideal) S1536x2304 .bf16)) = dxA (dbA x0 x1 x2 x5 x6) x9 x10 := by
  unfold kernelRun0_C
  dsimp only
  simp only [kernelRun0_C.sl.r_66, kernelRun0_C.sl.v1141, kernelRun0_C.sl.v1134, kernelRun0_C.sl.v1127, kernelRun0_C.sl.v1120, kernelRun0_C.sl.v1113, kernelRun0_C.sl.v1106, dxp0, dxp2, dxp3, dxp4, dxp5, View.readAt_eq_ld, harg10.read_unread, harg11.read_unread, readCov_ld, canon_HS0_6]
  refine rows_all ?_
  iterate 6 refine rows_step (m := 256) _ _ _ _ ?_ (dx_block (dbA x0 x1 x2 x5 x6) x9 x10 _ _ _)
  exact fun _ _ h => absurd h (Nat.not_lt_zero _)

/-- The stores of the codes' block. -/
theorem list_15 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.2.1 : List (View.Piece (Elt Ideal) S672x1536 .fp8e5m2)) = codeA x0 x1 x2 x5 x6 := by
  unfold kernelRun0_C
  dsimp only
  rw [View.canon_cons_unit_zero (by decide)]
  simp only [kernelRun0_C.sl.v687, readCov_ld, canon_HS1_6]
  funext y
  idx_vars y
  rw [pay84_apply]
  pointwise

/-- The stores of the scales' block. -/
theorem list_16 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.2.2.1 : List (View.Piece (Elt Ideal) S6x1536 .f32)) = scA x0 x1 x2 x5 x6 := by
  unfold kernelRun0_C
  dsimp only
  simp only [kernelRun0_C.sl.r_40, kernelRun0_C.sl.r_36, kernelRun0_C.sl.r_32, kernelRun0_C.sl.r_33, kernelRun0_C.sl.r_34, kernelRun0_C.sl.r_37, kernelRun0_C.sl.r_38, kernelRun0_C.sl.r_39, kernelRun0_C.sl.r_30, kernelRun0_C.sl.r_26, kernelRun0_C.sl.r_27, kernelRun0_C.sl.r_28, kernelRun0_C.sl.r_29, kernelRun0_C.sl.r_31, kernelRun0_C.sl.r_24, kernelRun0_C.sl.r_20, kernelRun0_C.sl.r_21, kernelRun0_C.sl.r_22, kernelRun0_C.sl.r_23, kernelRun0_C.sl.r_17, kernelRun0_C.sl.r_15, kernelRun0_C.sl.r_12, kernelRun0_C.sl.r_13, kernelRun0_C.sl.r_16, kernelRun0_C.sl.r_11, kernelRun0_C.sl.r_8, kernelRun0_C.sl.r_5, kernelRun0_C.sl.r_6, kernelRun0_C.sl.r_9, kernelRun0_C.sl.r_4, kernelRun0_C.sl.r_1, kernelRun0_C.sl.r_2, kernelRun0_C.sl.r_3, View.readAt_eq_ld, harg1.read_unread, harg2.read_unread, harg3.read_unread, harg6.read_unread, harg7.read_unread]
  simp only [scale_0, scale_1, scale_2, scale_3, scale_4, scale_5]
  refine rows_all ?_
  iterate 6 refine rows_step (m := 1) _ _ _ _ ?_ (sc_ld x0 x1 x2 x5 x6 (by decide) _ _ _ _ _)
  exact fun _ _ h => absurd h (Nat.not_lt_zero _)

/-- The stores of the weight gradient's block. -/
theorem list_12 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.1 : List (View.Piece (Elt Ideal) S672x2304 .f32)) = dwA xo12 (dbA x0 x1 x2 x5 x6) x8 x7 := by
  unfold kernelRun0_C
  dsimp only
  simp only [kernelRun0_C.sl.r_68, kernelRun0_C.sl.v1220, kernelRun0_C.sl.v1158, kernelRun0_C.sl.v1212, kernelRun0_C.sl.v1204, kernelRun0_C.sl.v1196, kernelRun0_C.sl.v1188, kernelRun0_C.sl.v1180, kernelRun0_C.sl.v1172, kernelRun0_C.sl.r_67, kernelRun0_C.sl.v1164, dwp1, dwp2, dwp3, dwp4, dwp5, dwp6, dwp7, dwp8, View.readAt_eq_ld, harg8.read_unread, harg13.read_unread, readCov_ld, canon_HS0_7]
  refine cols_all ?_
  iterate 9 refine cols_step (m := 256) _ _ _ _ ?_ (dw_block xo12 (dbA x0 x1 x2 x5 x6) x8 x7 _ _ _ xo12 fun _ _ _ => rfl)
  exact fun _ _ h => absurd h (Nat.not_lt_zero _)

/-- The lanes' stores, before the lanes are summed. -/
theorem canon_H13_6 : View.canon (kernelRun0_C.sl.H13_6 c arg2 harg2 arg4 harg4 arg5 harg5 arg14 harg14 x1 x3 x4 xo13 : List (View.Piece (Elt Ideal) S6x112x128 .f32)) = daA xo13 x3 x4 x1 := by
  simp only [kernelRun0_C.sl.H13_6, kernelRun0_C.sl.r_65, kernelRun0_C.sl.r_58, kernelRun0_C.sl.v1044, kernelRun0_C.sl.r_61, kernelRun0_C.sl.v976, kernelRun0_C.sl.r_57, kernelRun0_C.sl.r_50, kernelRun0_C.sl.v906, kernelRun0_C.sl.r_52, kernelRun0_C.sl.v838, kernelRun0_C.sl.r_49, kernelRun0_C.sl.r_42, kernelRun0_C.sl.v768, kernelRun0_C.sl.r_45, src0, src1, src2, src3, src4, src5, View.readAt_eq_ld, harg2.read_unread, harg4.read_unread, harg5.read_unread, harg14.read_unread]
  refine heads_all ?_
  iterate 3
    refine heads_step _ _ _ _ ?_ (hi_block xo13 x3 x4 x1 _ _ _ _ xo13 (fun _ _ _ _ => rfl) (by decide))
    refine heads_step _ _ _ _ ?_ (lo_block xo13 x3 x4 x1 _ _ _ _ xo13 (fun _ _ _ _ => rfl) (by decide))
  exact fun _ _ _ h => absurd h (Nat.not_lt_zero _)

/-- The stores of an attention-vector gradient's block. -/
theorem list_13 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.1 : List (View.Piece (Elt Ideal) S6x112x128 .f32)) = sumA (daA xo13 x3 x4 x1) := by
  unfold kernelRun0_C
  dsimp only
  refine Hds.done (X := daA xo13 x3 x4 x1) ?_
  iterate 6
    refine Hds.step ?_ fun hr => by
      simp only [kernelRun0_C.sl.v1276, kernelRun0_C.sl.v1267, kernelRun0_C.sl.v1231, kernelRun0_C.sl.v1249, kernelRun0_C.sl.r_69, kernelRun0_C.sl.v1258, kernelRun0_C.sl.v1240, sum1, sum2, sum3, sum4, sum5, sum6, sum7, sum8, sum9, sum10, sum11, readCov_ld]
      exact sum_block (daA xo13 x3 x4 x1) _ _ hr
  exact ⟨fun _ _ _ h => absurd h (Nat.not_lt_zero _), fun h f l _ => congrFun (canon_H13_6 ..) _⟩

/-- The lanes' stores, before the lanes are summed. -/
theorem canon_H14_6 : View.canon (kernelRun0_C.sl.H14_6 c arg3 harg3 arg4 harg4 arg5 harg5 arg15 harg15 x2 x3 x4 xo14 : List (View.Piece (Elt Ideal) S6x112x128 .f32)) = daA xo14 x3 x4 x2 := by
  simp only [kernelRun0_C.sl.H14_6, kernelRun0_C.sl.r_64, kernelRun0_C.sl.r_58, kernelRun0_C.sl.r_33, kernelRun0_C.sl.v1075, kernelRun0_C.sl.r_62, kernelRun0_C.sl.r_59, kernelRun0_C.sl.r_60, kernelRun0_C.sl.r_63, kernelRun0_C.sl.v1007, kernelRun0_C.sl.r_55, kernelRun0_C.sl.r_50, kernelRun0_C.sl.r_56, kernelRun0_C.sl.v937, kernelRun0_C.sl.r_53, kernelRun0_C.sl.r_51, kernelRun0_C.sl.r_12, kernelRun0_C.sl.r_54, kernelRun0_C.sl.v869, kernelRun0_C.sl.r_48, kernelRun0_C.sl.r_42, kernelRun0_C.sl.r_6, kernelRun0_C.sl.v799, kernelRun0_C.sl.r_46, kernelRun0_C.sl.r_43, kernelRun0_C.sl.r_44, kernelRun0_C.sl.r_47, dst0, dst1, dst2, dst3, dst4, dst5, View.readAt_eq_ld, harg3.read_unread, harg4.read_unread, harg5.read_unread, harg15.read_unread]
  refine heads_all ?_
  iterate 3
    refine heads_step _ _ _ _ ?_ (hi_block xo14 x3 x4 x2 _ _ _ _ xo14 (fun _ _ _ _ => rfl) (by decide))
    refine heads_step _ _ _ _ ?_ (lo_block xo14 x3 x4 x2 _ _ _ _ xo14 (fun _ _ _ _ => rfl) (by decide))
  exact fun _ _ _ h => absurd h (Nat.not_lt_zero _)

/-- The stores of an attention-vector gradient's block. -/
theorem list_14 : View.canon ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14).2.2.2.1 : List (View.Piece (Elt Ideal) S6x112x128 .f32)) = sumA (daA xo14 x3 x4 x2) := by
  unfold kernelRun0_C
  dsimp only
  refine Hds.done (X := daA xo14 x3 x4 x2) ?_
  iterate 6
    refine Hds.step ?_ fun hr => by
      simp only [kernelRun0_C.sl.v1330, kernelRun0_C.sl.v1285, kernelRun0_C.sl.v1303, kernelRun0_C.sl.v1294, kernelRun0_C.sl.r_70, kernelRun0_C.sl.v1321, kernelRun0_C.sl.v1312, sum1, sum2, sum3, sum4, sum5, sum6, sum7, sum8, sum9, sum10, sum11, readCov_ld]
      exact sum_block (daA xo14 x3 x4 x2) _ _ hr
  exact ⟨fun _ _ _ h => absurd h (Nat.not_lt_zero _), fun h f l _ => congrFun (canon_H14_6 ..) _⟩

/-- What the point leaves in output 11's block. -/
theorem out_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = dxA (dbA x0 x1 x2 x5 x6) x9 x10 := by
  unfold out0_C_11
  rw [View.read_writes_junk_eq_canon]
  exact list_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 12's block. -/
theorem out_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = dwA xo12 (dbA x0 x1 x2 x5 x6) x8 x7 := by
  unfold out0_C_12
  rw [View.read_writes_junk_eq_canon]
  exact list_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 13's block. -/
theorem out_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = sumA (daA xo13 x3 x4 x1) := by
  unfold out0_C_13
  rw [View.read_writes_junk_eq_canon]
  exact list_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 14's block. -/
theorem out_14 : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = sumA (daA xo14 x3 x4 x2) := by
  unfold out0_C_14
  rw [View.read_writes_junk_eq_canon]
  exact list_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 15's block. -/
theorem out_15 : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = codeA x0 x1 x2 x5 x6 := by
  unfold out0_C_15
  rw [View.read_writes_junk_eq_canon]
  exact list_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

/-- What the point leaves in output 16's block. -/
theorem out_16 : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14 = scA x0 x1 x2 x5 x6 := by
  unfold out0_C_16
  rw [View.read_writes_junk_eq_canon]
  exact list_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xo12 xo13 xo14

end Cert.KernelIdeal.RunC
end
-- ==== Proof.KernelBlocks.lean ====
module

public import proofs.«01_k».proof.Proof.KernelRunA
public import proofs.«01_k».proof.Proof.KernelRunB
public import proofs.«01_k».proof.Proof.KernelRunC
public import proofs.«01_k».proof.Proof.Gen.KernelIdeal.Value
public import Idealize.ShloMosaic.Lib.Pipeline.ValueKit

/-!
The kernel's input blocks at coordinates, what its staging buffers hold after each grid point, and the six result arrays.
-/

@[expose] public section
set_option maxRecDepth 16384
noncomputable section
namespace Cert.KernelIdeal.Final
open Cert.KernelIdeal Cert.KernelIdeal.Gen Cert.KernelIdeal.Heads Idealize.ShloMosaic Idealize.ShloMosaic.TcCoe Idealize.SL Idealize.SL.Sem
open Idealize.ShloMosaic.Pipeline (Dat)

variable (m : (ℓ : Loc nD τ sig) → Buf (Elt Ideal) ℓ) (c : Dev nD)

/-- A grid point's number is below twelve. -/
theorem t_lt (t : Fin cfg0.N) : t.val < 12 := lt_of_lt_of_eq t.isLt N_0

/-- Where window 0's block sits. -/
theorem e0 : ∀ t : Fin cfg0.N, win0_0.index t = ![0, t.val, 0] :=
  (by decide +kernel : ∀ t : Fin grid0.N, win0_0.index t = ![0, t.val, 0])

/-- Where window 1's block sits. -/
theorem e1 : ∀ t : Fin cfg0.N, win0_1.index t = ![0, t.val] :=
  (by decide +kernel : ∀ t : Fin grid0.N, win0_1.index t = ![0, t.val])

/-- Where window 2's block sits. -/
theorem e2 : ∀ t : Fin cfg0.N, win0_2.index t = ![0, t.val] :=
  (by decide +kernel : ∀ t : Fin grid0.N, win0_2.index t = ![0, t.val])

/-- Where window 3's block sits. -/
theorem e3 : ∀ t : Fin cfg0.N, win0_3.index t = ![0, t.val] :=
  (by decide +kernel : ∀ t : Fin grid0.N, win0_3.index t = ![0, t.val])

/-- Where window 4's block sits. -/
theorem e4 : ∀ t : Fin cfg0.N, win0_4.index t = ![0, t.val] :=
  (by decide +kernel : ∀ t : Fin grid0.N, win0_4.index t = ![0, t.val])

/-- Where window 5's block sits. -/
theorem e5 : ∀ t : Fin cfg0.N, win0_5.index t = ![0, 0, 0] :=
  (by decide +kernel : ∀ t : Fin grid0.N, win0_5.index t = ![0, 0, 0])

/-- Where window 6's block sits. -/
theorem e6 : ∀ t : Fin cfg0.N, win0_6.index t = ![0, 0, 0] :=
  (by decide +kernel : ∀ t : Fin grid0.N, win0_6.index t = ![0, 0, 0])

/-- Where window 7's block sits. -/
theorem e7 : ∀ t : Fin cfg0.N, win0_7.index t = ![t.val, 0] :=
  (by decide +kernel : ∀ t : Fin grid0.N, win0_7.index t = ![t.val, 0])

/-- Where window 8's block sits. -/
theorem e8 : ∀ t : Fin cfg0.N, win0_8.index t = ![0, t.val] :=
  (by decide +kernel : ∀ t : Fin grid0.N, win0_8.index t = ![0, t.val])

/-- Where window 9's block sits. -/
theorem e9 : ∀ t : Fin cfg0.N, win0_9.index t = ![0, 0] :=
  (by decide +kernel : ∀ t : Fin grid0.N, win0_9.index t = ![0, 0])

/-- Where window 10's block sits. -/
theorem e10 : ∀ t : Fin cfg0.N, win0_10.index t = ![0, 0] :=
  (by decide +kernel : ∀ t : Fin grid0.N, win0_10.index t = ![0, 0])

/-- Where window 11's block sits. -/
theorem e11 : ∀ t : Fin cfg0.N, win0_11.index t = ![t.val, 0] :=
  (by decide +kernel : ∀ t : Fin grid0.N, win0_11.index t = ![t.val, 0])

/-- Where window 15's block sits. -/
theorem e15 : ∀ t : Fin cfg0.N, win0_15.index t = ![0, t.val] :=
  (by decide +kernel : ∀ t : Fin grid0.N, win0_15.index t = ![0, t.val])

/-- Where window 16's block sits. -/
theorem e16 : ∀ t : Fin cfg0.N, win0_16.index t = ![0, t.val] :=
  (by decide +kernel : ∀ t : Fin grid0.N, win0_16.index t = ![0, t.val])

/-- Argument 0's block at point `t`. -/
theorem blk0 (t : Fin cfg0.N) (i : Fin 6) (j : Fin 1536) (k : Fin 128) : (iblk m c 0 t : Vec Ideal S6x1536x128 .f32) (ix3 i j k) = m ((c : Thread nD τ).loc main_arg0) (ix3 i ⟨1536 * t.val + j.val, by have := t_lt t; omega⟩ k) := by
  blk_ext [iblk, V, e0 t]

/-- Argument 1's block at point `t`. -/
theorem blk1 (t : Fin cfg0.N) (i : Fin 6) (j : Fin 1536) : (iblk m c 1 t : Vec Ideal S6x1536 .f32) (ix2 i j) = m ((c : Thread nD τ).loc main_arg1) (ix2 i ⟨1536 * t.val + j.val, by have := t_lt t; omega⟩) := by
  blk_ext [iblk, V, e1 t]

/-- Argument 2's block at point `t`. -/
theorem blk2 (t : Fin cfg0.N) (i : Fin 6) (j : Fin 1536) : (iblk m c 2 t : Vec Ideal S6x1536 .f32) (ix2 i j) = m ((c : Thread nD τ).loc main_arg2) (ix2 i ⟨1536 * t.val + j.val, by have := t_lt t; omega⟩) := by
  blk_ext [iblk, V, e2 t]

/-- Argument 3's block at point `t`. -/
theorem blk3 (t : Fin cfg0.N) (i : Fin 672) (j : Fin 1536) : (iblk m c 3 t : Vec Ideal S672x1536 .fp8e4m3) (ix2 i j) = m ((c : Thread nD τ).loc main_arg3) (ix2 i ⟨1536 * t.val + j.val, by have := t_lt t; omega⟩) := by
  blk_ext [iblk, V, e3 t]

/-- Argument 4's block at point `t`. -/
theorem blk4 (t : Fin cfg0.N) (i : Fin 6) (j : Fin 1536) : (iblk m c 4 t : Vec Ideal S6x1536 .f32) (ix2 i j) = m ((c : Thread nD τ).loc main_arg4) (ix2 i ⟨1536 * t.val + j.val, by have := t_lt t; omega⟩) := by
  blk_ext [iblk, V, e4 t]

/-- Argument 5's block at point `t`. -/
theorem blk5 (t : Fin cfg0.N) (i : Fin 6) (j : Fin 112) (k : Fin 1) : (iblk m c 5 t : Vec Ideal S6x112x1 .f32) (ix3 i j k) = m ((c : Thread nD τ).loc main_arg5) (ix3 i j k) := by
  blk_ext [iblk, V, e5 t]

/-- Argument 6's block at point `t`. -/
theorem blk6 (t : Fin cfg0.N) (i : Fin 6) (j : Fin 112) (k : Fin 1) : (iblk m c 6 t : Vec Ideal S6x112x1 .f32) (ix3 i j k) = m ((c : Thread nD τ).loc main_arg6) (ix3 i j k) := by
  blk_ext [iblk, V, e6 t]

/-- Argument 7's block at point `t`. -/
theorem blk7 (t : Fin cfg0.N) (i : Fin 1536) (j : Fin 2304) : (iblk m c 7 t : Vec Ideal S1536x2304 .fp8e4m3) (ix2 i j) = m ((c : Thread nD τ).loc main_arg7) (ix2 ⟨1536 * t.val + i.val, by have := t_lt t; omega⟩ j) := by
  blk_ext [iblk, V, e7 t]

/-- Argument 8's block at point `t`. -/
theorem blk8 (t : Fin cfg0.N) (i : Fin 1) (j : Fin 1536) : (iblk m c 8 t : Vec Ideal S1x1536 .f32) (ix2 i j) = m ((c : Thread nD τ).loc main_arg8) (ix2 i ⟨1536 * t.val + j.val, by have := t_lt t; omega⟩) := by
  blk_ext [iblk, V, e8 t]

/-- Argument 9's block at point `t`. -/
theorem blk9 (t : Fin cfg0.N) (i : Fin 672) (j : Fin 2304) : (iblk m c 9 t : Vec Ideal S672x2304 .fp8e4m3) (ix2 i j) = m ((c : Thread nD τ).loc main_arg9) (ix2 i j) := by
  blk_ext [iblk, V, e9 t]

/-- Argument 10's block at point `t`. -/
theorem blk10 (t : Fin cfg0.N) (i : Fin 1) (j : Fin 2304) : (iblk m c 10 t : Vec Ideal S1x2304 .f32) (ix2 i j) = m ((c : Thread nD τ).loc main_arg10) (ix2 i j) := by
  blk_ext [iblk, V, e10 t]

end Cert.KernelIdeal.Final
end
-- ==== Proof.KernelSteps.lean ====
module

public import proofs.«01_k».proof.Proof.KernelBlocks

/-!
What the staging buffers hold after each grid point: this point's own tile in the three tiled outputs, and in the three
accumulated outputs the fold over the points so far, its lanes summed at the last point.
-/

@[expose] public section
set_option maxRecDepth 16384
noncomputable section
namespace Cert.KernelIdeal.Final
open Cert.KernelIdeal Cert.KernelIdeal.Gen Cert.KernelIdeal.Heads Idealize.ShloMosaic Idealize.ShloMosaic.TcCoe Idealize.SL Idealize.SL.Sem
open Idealize.ShloMosaic.Pipeline (Dat)

variable (m : (ℓ : Loc nD τ sig) → Buf (Elt Ideal) ℓ) (c : Dev nD)

/-- The rescaled codes of the block at point `t`. -/
abbrev dbT (t : Fin cfg0.N) : Vec Ideal S672x1536 .bf16 := dbA (iblk m c 0 t) (iblk m c 1 t) (iblk m c 2 t) (iblk m c 5 t) (iblk m c 6 t)
/-- The codes of the block at point `t`. -/
abbrev codeT (t : Fin cfg0.N) : Vec Ideal S672x1536 .bf16 := codeA (iblk m c 0 t) (iblk m c 1 t) (iblk m c 2 t) (iblk m c 5 t) (iblk m c 6 t)
/-- The scales of the block at point `t`. -/
abbrev scT (t : Fin cfg0.N) : Vec Ideal S6x1536 .f32 := scA (iblk m c 0 t) (iblk m c 1 t) (iblk m c 2 t) (iblk m c 5 t) (iblk m c 6 t)
/-- The input gradient's block at point `t`. -/
abbrev dxT (t : Fin cfg0.N) : Vec Ideal S1536x2304 .bf16 := dxA (dbT m c t) (iblk m c 9 t) (iblk m c 10 t)
/-- The weight gradient's step at point `t`. -/
abbrev dwT (p : Vec Ideal S672x2304 .f32) (t : Fin cfg0.N) : Vec Ideal S672x2304 .f32 := dwA p (dbT m c t) (iblk m c 8 t) (iblk m c 7 t)
/-- The source lanes' step at point `t`. -/
abbrev dsT (p : Vec Ideal S6x112x128 .f32) (t : Fin cfg0.N) : Vec Ideal S6x112x128 .f32 := daA p (iblk m c 3 t) (iblk m c 4 t) (iblk m c 1 t)
/-- The destination lanes' step at point `t`. -/
abbrev ddT (p : Vec Ideal S6x112x128 .f32) (t : Fin cfg0.N) : Vec Ideal S6x112x128 .f32 := daA p (iblk m c 3 t) (iblk m c 4 t) (iblk m c 2 t)

/-- Six equal components make equal tuples. -/
theorem mk6 {α β γ δ ε ζ : Type} {a a' : α} {b b' : β} {x x' : γ} {d d' : δ} {e e' : ε} {f f' : ζ}
    (h1 : a = a') (h2 : b = b') (h3 : x = x') (h4 : d = d') (h5 : e = e') (h6 : f = f') :
    (a, b, x, d, e, f) = (a', b', x', d', e', f') := by
  subst h1 h2 h3 h4 h5 h6; rfl

/-- What the point before left. -/
abbrev prev (t : Fin cfg0.N) := outsAt0 m c (t.val - 1) (Nat.lt_of_le_of_lt (Nat.sub_le _ _) t.isLt)

/-- The first point's contents. -/
theorem outs_A (t : Fin cfg0.N) (h0 : t.val % 12 = 0) (h1 : ¬t.val % 12 = 11) :
    outsAt0 m c t.val t.isLt = (dxT m c t, dwT m c zW t, dsT m c zL t, ddT m c zL t, codeT m c t, scT m c t) :=
  (outsAt0_A m c t h0 h1).trans (mk6 (RunA.out_11 ..) (RunA.out_12 ..) (RunA.out_13 ..) (RunA.out_14 ..) (RunA.out_15 ..) (RunA.out_16 ..))

/-- A middle point's contents. -/
theorem outs_B (t : Fin cfg0.N) (h0 : ¬t.val % 12 = 0) (h1 : ¬t.val % 12 = 11) :
    outsAt0 m c t.val t.isLt = (dxT m c t, dwT m c (prev m c t).2.1 t, dsT m c (prev m c t).2.2.1 t, ddT m c (prev m c t).2.2.2.1 t, codeT m c t, scT m c t) :=
  (outsAt0_B m c t h0 h1).trans (mk6 (RunB.out_11 ..) (RunB.out_12 ..) (RunB.out_13 ..) (RunB.out_14 ..) (RunB.out_15 ..) (RunB.out_16 ..))

/-- The last point's contents. -/
theorem outs_C (t : Fin cfg0.N) (h0 : ¬t.val % 12 = 0) (h1 : t.val % 12 = 11) :
    outsAt0 m c t.val t.isLt = (dxT m c t, dwT m c (prev m c t).2.1 t, sumA (dsT m c (prev m c t).2.2.1 t), sumA (ddT m c (prev m c t).2.2.2.1 t), codeT m c t, scT m c t) :=
  (outsAt0_C m c t h0 h1).trans (mk6 (RunC.out_11 ..) (RunC.out_12 ..) (RunC.out_13 ..) (RunC.out_14 ..) (RunC.out_15 ..) (RunC.out_16 ..))

/-- The weight gradient after point `n`. -/
def w12 : (n : ℕ) → n < cfg0.N → Vec Ideal S672x2304 .f32
  | 0, h => dwT m c zW ⟨0, h⟩
  | n + 1, h => dwT m c (w12 n (Nat.lt_of_succ_lt h)) ⟨n + 1, h⟩
/-- An attention vector's lanes after point `n`, `b t` the block of logit gradients at point `t`. -/
def wL (b : Fin cfg0.N → Vec Ideal S6x1536 .f32) : (n : ℕ) → n < cfg0.N → Vec Ideal S6x112x128 .f32
  | 0, h => daA zL (iblk m c 3 ⟨0, h⟩) (iblk m c 4 ⟨0, h⟩) (b ⟨0, h⟩)
  | n + 1, h => daA (wL b n (Nat.lt_of_succ_lt h)) (iblk m c 3 ⟨n + 1, h⟩) (iblk m c 4 ⟨n + 1, h⟩) (b ⟨n + 1, h⟩)
/-- The source lanes after point `n`. -/
abbrev w13 := wL m c fun t => iblk m c 1 t
/-- The destination lanes after point `n`. -/
abbrev w14 := wL m c fun t => iblk m c 2 t

/-- The first eleven points' contents. -/
theorem outs_lt : ∀ (n : ℕ) (h : n < cfg0.N) (_ : n < 11), outsAt0 m c n h
    = (dxT m c ⟨n, h⟩, w12 m c n h, w13 m c n h, w14 m c n h, codeT m c ⟨n, h⟩, scT m c ⟨n, h⟩)
  | 0, h, _ => outs_A m c ⟨0, h⟩ rfl (by dsimp only; omega)
  | n + 1, h, hn => by
    have ih := outs_lt n (Nat.lt_of_succ_lt h) (by omega)
    have hp : prev m c ⟨n + 1, h⟩ = _ := ih
    rw [outs_B m c ⟨n + 1, h⟩ (by dsimp only; omega) (by dsimp only; omega), hp]
    rfl

/-- The last point's contents. -/
theorem outs_last (h : 11 < cfg0.N) : outsAt0 m c 11 h
    = (dxT m c ⟨11, h⟩, w12 m c 11 h, sumA (w13 m c 11 h), sumA (w14 m c 11 h), codeT m c ⟨11, h⟩, scT m c ⟨11, h⟩) := by
  have ih := outs_lt m c 10 (Nat.lt_of_succ_lt h) (by omega)
  have hp : prev m c ⟨11, h⟩ = _ := ih
  rw [outs_C m c ⟨11, h⟩ (by dsimp only; omega) (by dsimp only), hp]
  rfl

/-- The tiled outputs' buffers hold this point's tile at every point. -/
theorem outs_tiles (t : Fin cfg0.N) : (outsAt0 m c t.val t.isLt).1 = dxT m c t ∧ (outsAt0 m c t.val t.isLt).2.2.2.2 = (codeT m c t, scT m c t) := by
  by_cases h0 : t.val % 12 = 0
  · rw [outs_A m c t h0 (by omega)]
    exact ⟨rfl, rfl⟩
  · by_cases h1 : t.val % 12 = 11
    · rw [outs_C m c t h0 h1]
      exact ⟨rfl, rfl⟩
    · rw [outs_B m c t h0 h1]
      exact ⟨rfl, rfl⟩

end Cert.KernelIdeal.Final
end
-- ==== Proof.KernelValue.lean ====
module

public import proofs.«01_k».proof.Proof.KernelSteps

/-!
The kernel's six result arrays in closed form: functions of the eleven arguments.
-/

@[expose] public section
set_option maxRecDepth 16384
noncomputable section
namespace Cert.KernelIdeal.Final
open Cert.KernelIdeal Cert.KernelIdeal.Gen Cert.KernelIdeal.Heads Idealize.ShloMosaic Idealize.ShloMosaic.TcCoe Idealize.SL Idealize.SL.Sem
open Idealize.ShloMosaic.Pipeline (Dat)

section Closed
variable (a0 : Vec Ideal S6x18432x128 .f32) (a1 a2 : Vec Ideal S6x18432 .f32) (a3 : Vec Ideal S672x18432 .fp8e4m3) (a4 : Vec Ideal S6x18432 .f32)
  (a5 a6 : Vec Ideal S6x112x1 .f32) (a7 : Vec Ideal S18432x2304 .fp8e4m3) (a8 : Vec Ideal S1x18432 .f32) (a9 : Vec Ideal S672x2304 .fp8e4m3)
  (a10 : Vec Ideal S1x2304 .f32)

/-- Head `h`'s row at node `n`. -/
def kr (h : Fin 6) (n : Fin 18432) (f : Fin 112) : EReal :=
  Spec.dh (a0 (ix3 h n ⟨f.val, by omega⟩)) (a1 (ix2 h n)) (a5 (ix3 h f 0)) (a2 (ix2 h n)) (a6 (ix3 h f 0))
/-- The code at row `d` (head `d / 112`, feature `d % 112`) and node `n`. -/
def kc (d : Fin 672) (n : Fin 18432) : EReal := Spec.kcode (kr a0 a1 a2 a5 a6 ⟨d.val / 112, by omega⟩ n) ⟨d.val % 112, by omega⟩
/-- The rescaled code at row `d` and node `n`. -/
def kd (d : Fin 672) (n : Fin 18432) : EReal := kc a0 a1 a2 a5 a6 d n * Spec.kscale (kr a0 a1 a2 a5 a6 ⟨d.val / 112, by omega⟩ n)
/-- The input gradient. -/
def k11 : Vec Ideal S18432x2304 .bf16 := fun y => (∑ d : Fin 672, kd a0 a1 a2 a5 a6 d (y 0) * a9 (ix2 d (y 1))) * a10 (ix2 0 (y 1))
/-- The weight gradient. -/
def k12 : Vec Ideal S672x2304 .f32 := fun y => ∑ n : Fin 18432, (kd a0 a1 a2 a5 a6 (y 0) n * a8 (ix2 0 n)) * a7 (ix2 n (y 1))
/-- An attention-vector gradient, on every lane. -/
def k13 (w : Vec Ideal S6x18432 .f32) : Vec Ideal S6x112x128 .f32 := fun y =>
  ∑ n : Fin 18432, a3 (ix2 ⟨112 * (y 0).val + (y 1).val, by have h0 := (y 0).isLt; have h1 := (y 1).isLt; simp at h0 h1; omega⟩ n) * a4 (ix2 (y 0) n) * w (ix2 (y 0) n)
/-- The codes. -/
def k15 : Vec Ideal S672x18432 .fp8e5m2 := fun y => kc a0 a1 a2 a5 a6 (y 0) (y 1)
/-- The scales. -/
def k16 : Vec Ideal S6x18432 .f32 := fun y => Spec.kscale (kr a0 a1 a2 a5 a6 (y 0) (y 1))
end Closed

/-- A sequence that starts at `f 0` and adds `f (n + 1)` at each step is the sum of `f`. -/
theorem rec_sum {N : ℕ} (f : Fin N → EReal) (w : (n : ℕ) → n < N → EReal) (h0 : ∀ h, w 0 h = f ⟨0, h⟩)
    (hs : ∀ n h, w (n + 1) h = w n (Nat.lt_of_succ_lt h) + f ⟨n + 1, h⟩) :
    ∀ n h, w n h = ∑ t : Fin (n + 1), f ⟨t.val, Nat.lt_of_lt_of_le t.isLt h⟩
  | 0, h => by rw [h0, Fin.sum_univ_one]; rfl
  | n + 1, h => by
    rw [hs, rec_sum f w h0 hs n (Nat.lt_of_succ_lt h), Fin.sum_univ_castSucc (n := n + 1)]
    rfl

/-- Twelve groups of 128 lanes added one after the other are their sum. -/
theorem lanes_eq (p : EReal) (t : Fin 1536 → EReal) (l : Fin 128) :
    lanes p t l = p + ∑ j : Fin 12, t ⟨j.val * 128 + l.val, by omega⟩ := by
  simp only [lanes, Fin.sum_univ_succ, Fin.sum_univ_zero, add_zero, ← add_assoc]
  congr
  simp

/-- The lanes' sum of the sums over points and groups is the sum over all nodes. -/
theorem lanes_sum (g : Fin 12 → Fin 1536 → EReal) (f : Fin 18432 → EReal)
    (h : ∀ (t : Fin 12) (s : Fin 1536) (hl : t.val * 1536 + s.val < 18432), g t s = f ⟨t.val * 1536 + s.val, hl⟩) :
    ∑ l : Fin 128, ∑ t : Fin 12, ∑ j : Fin 12, g t ⟨j.val * 128 + l.val, by omega⟩ = ∑ n : Fin 18432, f n := by
  rw [Finset.sum_comm, ← Fin.sum_mul_add_congr (S := 12) (n := 1536) h]
  refine Finset.sum_congr rfl fun t _ => ?_
  rw [Finset.sum_comm]
  exact Fin.sum_mul_add_fin 12 128 (g t)

variable (m : (ℓ : Loc nD τ sig) → Buf (Elt Ideal) ℓ) (c : Dev nD)

abbrev A0 : Vec Ideal S6x18432x128 .f32 := m ((c : Thread nD τ).loc main_arg0)
abbrev A1 : Vec Ideal S6x18432 .f32 := m ((c : Thread nD τ).loc main_arg1)
abbrev A2 : Vec Ideal S6x18432 .f32 := m ((c : Thread nD τ).loc main_arg2)
abbrev A3 : Vec Ideal S672x18432 .fp8e4m3 := m ((c : Thread nD τ).loc main_arg3)
abbrev A4 : Vec Ideal S6x18432 .f32 := m ((c : Thread nD τ).loc main_arg4)
abbrev A5 : Vec Ideal S6x112x1 .f32 := m ((c : Thread nD τ).loc main_arg5)
abbrev A6 : Vec Ideal S6x112x1 .f32 := m ((c : Thread nD τ).loc main_arg6)
abbrev A7 : Vec Ideal S18432x2304 .fp8e4m3 := m ((c : Thread nD τ).loc main_arg7)
abbrev A8 : Vec Ideal S1x18432 .f32 := m ((c : Thread nD τ).loc main_arg8)
abbrev A9 : Vec Ideal S672x2304 .fp8e4m3 := m ((c : Thread nD τ).loc main_arg9)
abbrev A10 : Vec Ideal S1x2304 .f32 := m ((c : Thread nD τ).loc main_arg10)

/-- A block's row is the arrays' row at the block's node. -/
theorem krow_blk (t : Fin cfg0.N) (h : Fin 6) (s : Fin 1536) (n : Fin 18432) (hn : n.val = 1536 * t.val + s.val) :
    krow (iblk m c 0 t) (iblk m c 1 t) (iblk m c 2 t) (iblk m c 5 t) (iblk m c 6 t) h s
      = kr (A0 m c) (A1 m c) (A2 m c) (A5 m c) (A6 m c) h n := by
  have hl : 1536 * t.val + s.val < 18432 := by have := t_lt t; omega
  obtain rfl : n = ⟨1536 * t.val + s.val, hl⟩ := Fin.ext hn
  funext f
  unfold krow kr
  rw [blk0 m c t, blk1 m c t, blk2 m c t, blk5 m c t, blk6 m c t]

/-- The block's rescaled codes at the block's node. -/
theorem dbT_at (t : Fin cfg0.N) (d : Fin 672) (s : Fin 1536) (n : Fin 18432) (hn : n.val = 1536 * t.val + s.val) :
    dbT m c t (ix2 d s) = kd (A0 m c) (A1 m c) (A2 m c) (A5 m c) (A6 m c) d n := by
  unfold kd kc
  rw [← krow_blk m c t _ s n hn]
  rfl
theorem codeT_at (t : Fin cfg0.N) (d : Fin 672) (s : Fin 1536) (n : Fin 18432) (hn : n.val = 1536 * t.val + s.val) :
    codeT m c t (ix2 d s) = k15 (A0 m c) (A1 m c) (A2 m c) (A5 m c) (A6 m c) (ix2 d n) := by
  show _ = kc (A0 m c) (A1 m c) (A2 m c) (A5 m c) (A6 m c) d n
  unfold kc
  rw [← krow_blk m c t _ s n hn]
  rfl
theorem scT_at (t : Fin cfg0.N) (h : Fin 6) (s : Fin 1536) (n : Fin 18432) (hn : n.val = 1536 * t.val + s.val) :
    scT m c t (ix2 h s) = k16 (A0 m c) (A1 m c) (A2 m c) (A5 m c) (A6 m c) (ix2 h n) :=
  congrArg Spec.kscale (krow_blk m c t h s n hn)

/-- The input gradient's block at the block's node. -/
theorem dxT_at (t : Fin cfg0.N) (s : Fin 1536) (k : Fin 2304) (n : Fin 18432) (hn : n.val = 1536 * t.val + s.val) :
    dxT m c t (ix2 s k) = k11 (A0 m c) (A1 m c) (A2 m c) (A5 m c) (A6 m c) (A9 m c) (A10 m c) (ix2 n k) := by
  show (∑ d : Fin 672, dbT m c t (ix2 d s) * (iblk m c 9 t : Vec Ideal S672x2304 .fp8e4m3) (ix2 d k)) * (iblk m c 10 t : Vec Ideal S1x2304 .f32) (ix2 0 k)
    = (∑ d : Fin 672, kd (A0 m c) (A1 m c) (A2 m c) (A5 m c) (A6 m c) d n * A9 m c (ix2 d k)) * A10 m c (ix2 0 k)
  rw [blk10 m c t]
  refine congrArg (fun x : EReal => x * A10 m c (ix2 0 k)) (Finset.sum_congr rfl fun d _ => ?_)
  rw [blk9 m c t, dbT_at m c t d s n hn]

/-- The weight gradient after the last point. -/
theorem w12_at (h : 11 < cfg0.N) (d : Fin 672) (k : Fin 2304) :
    w12 m c 11 h (ix2 d k) = k12 (A0 m c) (A1 m c) (A2 m c) (A5 m c) (A6 m c) (A7 m c) (A8 m c) (ix2 d k) := by
  rw [rec_sum (fun t => ∑ s : Fin 1536, (dbT m c t (ix2 d s) * (iblk m c 8 t : Vec Ideal S1x1536 .f32) (ix2 0 s)) * (iblk m c 7 t : Vec Ideal S1536x2304 .fp8e4m3) (ix2 s k))
    (fun n h => w12 m c n h (ix2 d k)) (fun h => zero_add _) (fun n h => rfl) 11 h]
  refine Fin.sum_mul_add_congr (S := 12) (n := 1536) fun t s hl => ?_
  rw [blk8 m c _, blk7 m c _, dbT_at m c _ d s ⟨t.val * 1536 + s.val, hl⟩ (by show t.val * 1536 + s.val = 1536 * t.val + s.val; omega)]
  congr 3 <;> (congr 2; first | exact Nat.mul_comm 1536 t.val | exact congrArg (· + s.val) (Nat.mul_comm 1536 t.val))

/-- An attention-vector gradient after the last point, `b` the blocks of the logit gradients `w`. -/
theorem wL_eq (h : 11 < cfg0.N) (b : Fin cfg0.N → Vec Ideal S6x1536 .f32) (w : Vec Ideal S6x18432 .f32)
    (hb : ∀ (t : Fin cfg0.N) (i : Fin 6) (s : Fin 1536), b t (ix2 i s) = w (ix2 i ⟨1536 * t.val + s.val, by have := t_lt t; omega⟩)) :
    sumA (wL m c b 11 h) = k13 (A3 m c) (A4 m c) w := by
  have at_ix : ∀ (i : Fin 6) (f : Fin 112) (l : Fin 128), sumA (wL m c b 11 h) (ix3 i f l) = k13 (A3 m c) (A4 m c) w (ix3 i f l) := fun i f l => by
    show ∑ l : Fin 128, wL m c b 11 h (ix3 i f l) = _
    have e : ∀ l : Fin 128, wL m c b 11 h (ix3 i f l) = _ := fun l =>
      rec_sum (fun t => ∑ j : Fin 12, tm (iblk m c 3 t) (iblk m c 4 t) (b t) i f ⟨j.val * 128 + l.val, by omega⟩)
        (fun n h => wL m c b n h (ix3 i f l)) (fun h => (lanes_eq _ _ _).trans (zero_add _)) (fun n h => lanes_eq _ _ _) 11 h
    simp only [e]
    refine lanes_sum (fun t s => tm (iblk m c 3 ⟨t.val, Nat.lt_of_lt_of_le t.isLt h⟩) (iblk m c 4 ⟨t.val, Nat.lt_of_lt_of_le t.isLt h⟩) (b ⟨t.val, Nat.lt_of_lt_of_le t.isLt h⟩) i f s) _ fun t s hl => ?_
    unfold tm
    rw [blk3 m c _, blk4 m c _, hb]
    congr 3 <;> (congr 2; first | exact Nat.mul_comm 1536 t.val | exact congrArg (· + s.val) (Nat.mul_comm 1536 t.val))
  funext y
  rw [show y = ix3 (y 0) (y 1) (y 2) from funext fun a => match a with | ⟨0, _⟩ => rfl | ⟨1, _⟩ => rfl | ⟨2, _⟩ => rfl]
  exact at_ix _ _ _

/-- There is a twelfth point. -/
theorem hN : 11 < cfg0.N := by decide +kernel
/-- The tiled outputs' blocks cover their arrays. -/
theorem cov11 : (cfg0.win 11).Covers := by decide +kernel
theorem cov15 : (cfg0.win 15).Covers := by decide +kernel
theorem cov16 : (cfg0.win 16).Covers := by decide +kernel
/-- The last point. -/
def lastPt : Fin cfg0.N := ⟨11, hN⟩
/-- The accumulated outputs are written back once, whole. -/
theorem whole12 : (cfg0.win 12).WholeAt lastPt := by decide +kernel
theorem whole13 : (cfg0.win 13).WholeAt lastPt := by decide +kernel
theorem whole14 : (cfg0.win 14).WholeAt lastPt := by decide +kernel

/-- The input gradient's array. -/
theorem final11 : (dats m 0 c).arrAt 11 cfg0.N = k11 (A0 m c) (A1 m c) (A2 m c) (A5 m c) (A6 m c) (A9 m c) (A10 m c) := by
  refine (dats m 0 c).arrAt_eq_of_covers 11 _ cov11 fun t hf y => ?_
  blk_simp
  rw [after0_11, (outs_tiles m c t).1]
  have hb := t_lt t
  have hy : (y 0).val < 1536 := (y 0).isLt
  refine (congrArg (dxT m c t) (?_ : _ = ix2 (y 0) (y 1))).trans ((dxT_at m c t (y 0) (y 1) ⟨1536 * t.val + (y 0).val, by omega⟩ rfl).trans (congrArg (k11 _ _ _ _ _ _ _) ?_))
  · funext a; match a with | ⟨0, _⟩ => rfl | ⟨1, _⟩ => rfl
  · funext a
    apply Fin.ext
    match a with
    | ⟨0, _⟩ =>
      blk_simp [e11]
      simp
      try omega
    | ⟨1, _⟩ =>
      blk_simp [e11]
      simp

/-- The codes' array. -/
theorem final15 : (dats m 0 c).arrAt 15 cfg0.N = k15 (A0 m c) (A1 m c) (A2 m c) (A5 m c) (A6 m c) := by
  refine (dats m 0 c).arrAt_eq_of_covers 15 _ cov15 fun t hf y => ?_
  blk_simp
  rw [after0_15, (outs_tiles m c t).2]
  have hb := t_lt t
  have hy : (y 1).val < 1536 := (y 1).isLt
  refine (congrArg (codeT m c t) (?_ : _ = ix2 (y 0) (y 1))).trans ((codeT_at m c t (y 0) (y 1) ⟨1536 * t.val + (y 1).val, by omega⟩ rfl).trans (congrArg (k15 _ _ _ _ _) ?_))
  · funext a; match a with | ⟨0, _⟩ => rfl | ⟨1, _⟩ => rfl
  · funext a
    apply Fin.ext
    match a with
    | ⟨0, _⟩ =>
      blk_simp [e15]
      simp
    | ⟨1, _⟩ =>
      blk_simp [e15]
      simp
      try omega

/-- The scales' array. -/
theorem final16 : (dats m 0 c).arrAt 16 cfg0.N = k16 (A0 m c) (A1 m c) (A2 m c) (A5 m c) (A6 m c) := by
  refine (dats m 0 c).arrAt_eq_of_covers 16 _ cov16 fun t hf y => ?_
  blk_simp
  rw [after0_16, (outs_tiles m c t).2]
  have hb := t_lt t
  have hy : (y 1).val < 1536 := (y 1).isLt
  refine (congrArg (scT m c t) (?_ : _ = ix2 (y 0) (y 1))).trans ((scT_at m c t (y 0) (y 1) ⟨1536 * t.val + (y 1).val, by omega⟩ rfl).trans (congrArg (k16 _ _ _ _ _) ?_))
  · funext a; match a with | ⟨0, _⟩ => rfl | ⟨1, _⟩ => rfl
  funext a
  apply Fin.ext
  match a with
  | ⟨0, _⟩ =>
    blk_simp [e16]
    simp
  | ⟨1, _⟩ =>
    blk_simp [e16]
    simp
    try omega

/-- The weight gradient's array. -/
theorem final12 : (dats m 0 c).arrAt 12 cfg0.N = k12 (A0 m c) (A1 m c) (A2 m c) (A5 m c) (A6 m c) (A7 m c) (A8 m c) := by
  have e : ∀ y : S672x2304.Idx, (outsAt0 m c 11 hN).2.1 y = k12 (A0 m c) (A1 m c) (A2 m c) (A5 m c) (A6 m c) (A7 m c) (A8 m c) y := fun y => by
    rw [outs_last m c hN]
    have e : y = ix2 (y 0) (y 1) := by
      funext a; match a with | ⟨0, _⟩ => rfl | ⟨1, _⟩ => rfl
    rw [e]
    exact w12_at m c hN (y 0) (y 1)
  refine (dats m 0 c).arrAt_eq_of_after_last 12 lastPt whole12 _ fun y => ?_
  blk_simp
  rw [after0_12]
  exact e y

/-- The source attention-vector gradient's array. -/
theorem final13 : (dats m 0 c).arrAt 13 cfg0.N = k13 (A3 m c) (A4 m c) (A1 m c) := by
  have e : (outsAt0 m c 11 hN).2.2.1 = _ := (congrArg (·.2.2.1) (outs_last m c hN)).trans (wL_eq m c hN _ (A1 m c) (blk1 m c))
  refine (dats m 0 c).arrAt_eq_of_after_last 13 lastPt whole13 _ fun y => ?_
  blk_simp
  rw [after0_13]
  exact congrFun e y

/-- The destination attention-vector gradient's array. -/
theorem final14 : (dats m 0 c).arrAt 14 cfg0.N = k13 (A3 m c) (A4 m c) (A2 m c) := by
  have e : (outsAt0 m c 11 hN).2.2.2.1 = _ := (congrArg (·.2.2.2.1) (outs_last m c hN)).trans (wL_eq m c hN _ (A2 m c) (blk2 m c))
  refine (dats m 0 c).arrAt_eq_of_after_last 14 lastPt whole14 _ fun y => ?_
  blk_simp
  rw [after0_14]
  exact congrFun e y

end Cert.KernelIdeal.Final
end
-- ==== Proof.ReferenceValue.lean ====
/- The reference's arrays after its run, each as one function of the argument arrays. The reference has one grid point, and
   every block is its whole array. -/
module

public import proofs.«01_k».proof.Proof.Gen.ReferenceIdeal.Frame
public import Idealize.ShloMosaic.Lib.Pipeline.Value
public import Idealize.ShloMosaic.Lib.Pipeline.ValueKit

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]

/-! ## The six results as functions of the arguments -/

section Results
variable (a0 : Vec F S6x18432x128 .f32) (a1 a2 : Vec F S6x18432 .f32) (a3 : Vec F S672x18432 .fp8e4m3) (a4 : Vec F S6x18432 .f32)
  (a5 a6 : Vec F S6x112x1 .f32) (a7 : Vec F S18432x2304 .fp8e4m3) (a8 : Vec F S1x18432 .f32) (a9 : Vec F S672x2304 .fp8e4m3)
  (a10 : Vec F S1x2304 .f32)

/-- The input gradient. -/
abbrev G11 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S18432x2304 .bf16 :=
  k0_pay11 (k0_pay14 a0 a1 a2 a3 a4 a5 a6 a7 a8 a9 a10) (k0_pay15 a0 a1 a2 a3 a4 a5 a6 a7 a8 a9 a10) (Scalar.ofBits .f32 0xC7600000#32) a9 a10
/-- The weight gradient. -/
abbrev G12 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S672x2304 .f32 :=
  k0_pay12 (k0_pay14 a0 a1 a2 a3 a4 a5 a6 a7 a8 a9 a10) (k0_pay15 a0 a1 a2 a3 a4 a5 a6 a7 a8 a9 a10) (Scalar.ofBits .f32 0xC7600000#32) a7 a8
/-- The source attention-vector gradient. -/
abbrev G13 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S6x112x128 .f32 :=
  k0_pay2 (k0_pay16 a0 a1 a2 a3 a4 a5 a6 a7 a8 a9 a10) a4 a1
/-- The destination attention-vector gradient. -/
abbrev G14 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S6x112x128 .f32 :=
  k0_pay3 (k0_pay16 a0 a1 a2 a3 a4 a5 a6 a7 a8 a9 a10) a4 a2
/-- The codes. -/
abbrev G15 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S672x18432 .fp8e5m2 :=
  k0_pay9 (k0_pay15 a0 a1 a2 a3 a4 a5 a6 a7 a8 a9 a10) (Scalar.ofBits .f32 0xC7600000#32)
/-- The scales. -/
abbrev G16 (a0 : Vec F S6x18432x128 .f32) (a1 a2 : Vec F S6x18432 .f32) (a3 : Vec F S672x18432 .fp8e4m3) (a4 : Vec F S6x18432 .f32)
    (a5 a6 : Vec F S6x112x1 .f32) (a7 : Vec F S18432x2304 .fp8e4m3) (a8 : Vec F S1x18432 .f32) (a9 : Vec F S672x2304 .fp8e4m3)
    (a10 : Vec F S1x2304 .f32) : Vec F S6x18432 .f32 :=
  k0_pay14 a0 a1 a2 a3 a4 a5 a6 a7 a8 a9 a10

theorem z2 : (![0, 0] : Fin 2 → Nat) = fun _ => 0 := funext fun a => by fin_cases a <;> rfl
theorem z3 : (![0, 0, 0] : Fin 3 → Nat) = fun _ => 0 := funext fun a => by fin_cases a <;> rfl

/-! The body loads whole blocks and stores each result whole. -/

theorem out11_eq : out0_11 a0 a1 a2 a3 a4 a5 a6 a7 a8 a9 a10 = G11 a0 a1 a2 a3 a4 a5 a6 a7 a8 a9 a10 := by
  unfold out0_11
  rw [View.canon_unit_zero z2, View.ld_unit_zero (S := S672x2304) z2 _ a9, View.ld_unit_zero (S := S1x2304) z2 _ a10]
theorem out12_eq : out0_12 a0 a1 a2 a3 a4 a5 a6 a7 a8 a9 a10 = G12 a0 a1 a2 a3 a4 a5 a6 a7 a8 a9 a10 := by
  unfold out0_12
  rw [View.canon_unit_zero z2, View.ld_unit_zero (S := S18432x2304) z2 _ a7, View.ld_unit_zero (S := S1x18432) z2 _ a8]
theorem out13_eq : out0_13 a0 a1 a2 a3 a4 a5 a6 a7 a8 a9 a10 = G13 a0 a1 a2 a3 a4 a5 a6 a7 a8 a9 a10 := by
  unfold out0_13
  rw [View.canon_unit_zero z3, View.ld_unit_zero (S := S6x18432) z2 _ a4, View.ld_unit_zero (S := S6x18432) z2 _ a1]
theorem out14_eq : out0_14 a0 a1 a2 a3 a4 a5 a6 a7 a8 a9 a10 = G14 a0 a1 a2 a3 a4 a5 a6 a7 a8 a9 a10 := by
  unfold out0_14
  rw [View.canon_unit_zero z3, View.ld_unit_zero (S := S6x18432) z2 _ a4, View.ld_unit_zero (S := S6x18432) z2 _ a2]
theorem out15_eq : out0_15 a0 a1 a2 a3 a4 a5 a6 a7 a8 a9 a10 = G15 a0 a1 a2 a3 a4 a5 a6 a7 a8 a9 a10 := by
  unfold out0_15
  rw [View.canon_unit_zero z2]
theorem out16_eq : out0_16 a0 a1 a2 a3 a4 a5 a6 a7 a8 a9 a10 = G16 a0 a1 a2 a3 a4 a5 a6 a7 a8 a9 a10 := by
  unfold out0_16
  rw [View.canon_unit_zero z2]
end Results

variable (m : (ℓ : Loc nD τ sig) → Buf (Elt F) ℓ) (ρ : Dev nD → PrngReg) (c : Dev nD)

/-! ## Every argument's block is the argument -/

abbrev R0 : Vec F S6x18432x128 .f32 := m ((c : Thread nD τ).loc main_arg0)
abbrev R1 : Vec F S6x18432 .f32 := m ((c : Thread nD τ).loc main_arg1)
abbrev R2 : Vec F S6x18432 .f32 := m ((c : Thread nD τ).loc main_arg2)
abbrev R3 : Vec F S672x18432 .fp8e4m3 := m ((c : Thread nD τ).loc main_arg3)
abbrev R4 : Vec F S6x18432 .f32 := m ((c : Thread nD τ).loc main_arg4)
abbrev R5 : Vec F S6x112x1 .f32 := m ((c : Thread nD τ).loc main_arg5)
abbrev R6 : Vec F S6x112x1 .f32 := m ((c : Thread nD τ).loc main_arg6)
abbrev R7 : Vec F S18432x2304 .fp8e4m3 := m ((c : Thread nD τ).loc main_arg7)
abbrev R8 : Vec F S1x18432 .f32 := m ((c : Thread nD τ).loc main_arg8)
abbrev R9 : Vec F S672x2304 .fp8e4m3 := m ((c : Thread nD τ).loc main_arg9)
abbrev R10 : Vec F S1x2304 .f32 := m ((c : Thread nD τ).loc main_arg10)

/-- The one point. -/
def pt : Fin cfg0.N := ⟨0, by decide +kernel⟩

theorem blk0 : iblk m c 0 pt = R0 m c := by
  funext y
  blk_ext [iblk, V, (by decide +kernel : win0_0.index pt = ![0, 0, 0])]
theorem blk1 : iblk m c 1 pt = R1 m c := by
  funext y
  blk_ext [iblk, V, (by decide +kernel : win0_1.index pt = ![0, 0])]
theorem blk2 : iblk m c 2 pt = R2 m c := by
  funext y
  blk_ext [iblk, V, (by decide +kernel : win0_2.index pt = ![0, 0])]
theorem blk3 : iblk m c 3 pt = R3 m c := by
  funext y
  blk_ext [iblk, V, (by decide +kernel : win0_3.index pt = ![0, 0])]
theorem blk4 : iblk m c 4 pt = R4 m c := by
  funext y
  blk_ext [iblk, V, (by decide +kernel : win0_4.index pt = ![0, 0])]
theorem blk5 : iblk m c 5 pt = R5 m c := by
  funext y
  blk_ext [iblk, V, (by decide +kernel : win0_5.index pt = ![0, 0, 0])]
theorem blk6 : iblk m c 6 pt = R6 m c := by
  funext y
  blk_ext [iblk, V, (by decide +kernel : win0_6.index pt = ![0, 0, 0])]
theorem blk7 : iblk m c 7 pt = R7 m c := by
  funext y
  blk_ext [iblk, V, (by decide +kernel : win0_7.index pt = ![0, 0])]
theorem blk8 : iblk m c 8 pt = R8 m c := by
  funext y
  blk_ext [iblk, V, (by decide +kernel : win0_8.index pt = ![0, 0])]
theorem blk9 : iblk m c 9 pt = R9 m c := by
  funext y
  blk_ext [iblk, V, (by decide +kernel : win0_9.index pt = ![0, 0])]
theorem blk10 : iblk m c 10 pt = R10 m c := by
  funext y
  blk_ext [iblk, V, (by decide +kernel : win0_10.index pt = ![0, 0])]

/-! ## The result arrays -/

theorem final11 : (dats m 0 c).arrAt 11 cfg0.N = G11 (R0 m c) (R1 m c) (R2 m c) (R3 m c) (R4 m c) (R5 m c) (R6 m c) (R7 m c) (R8 m c) (R9 m c) (R10 m c) := by
  refine (dats m 0 c).arrAt_eq_of_after_last 11 pt (by decide +kernel) _ fun y => ?_
  blk_simp
  rw [after0_11, out11_eq, blk0, blk1, blk2, blk3, blk4, blk5, blk6, blk7, blk8, blk9, blk10]
theorem final12 : (dats m 0 c).arrAt 12 cfg0.N = G12 (R0 m c) (R1 m c) (R2 m c) (R3 m c) (R4 m c) (R5 m c) (R6 m c) (R7 m c) (R8 m c) (R9 m c) (R10 m c) := by
  refine (dats m 0 c).arrAt_eq_of_after_last 12 pt (by decide +kernel) _ fun y => ?_
  blk_simp
  rw [after0_12, out12_eq, blk0, blk1, blk2, blk3, blk4, blk5, blk6, blk7, blk8, blk9, blk10]
theorem final13 : (dats m 0 c).arrAt 13 cfg0.N = G13 (R0 m c) (R1 m c) (R2 m c) (R3 m c) (R4 m c) (R5 m c) (R6 m c) (R7 m c) (R8 m c) (R9 m c) (R10 m c) := by
  refine (dats m 0 c).arrAt_eq_of_after_last 13 pt (by decide +kernel) _ fun y => ?_
  blk_simp
  rw [after0_13, out13_eq, blk0, blk1, blk2, blk3, blk4, blk5, blk6, blk7, blk8, blk9, blk10]
theorem final14 : (dats m 0 c).arrAt 14 cfg0.N = G14 (R0 m c) (R1 m c) (R2 m c) (R3 m c) (R4 m c) (R5 m c) (R6 m c) (R7 m c) (R8 m c) (R9 m c) (R10 m c) := by
  refine (dats m 0 c).arrAt_eq_of_after_last 14 pt (by decide +kernel) _ fun y => ?_
  blk_simp
  rw [after0_14, out14_eq, blk0, blk1, blk2, blk3, blk4, blk5, blk6, blk7, blk8, blk9, blk10]
theorem final15 : (dats m 0 c).arrAt 15 cfg0.N = G15 (R0 m c) (R1 m c) (R2 m c) (R3 m c) (R4 m c) (R5 m c) (R6 m c) (R7 m c) (R8 m c) (R9 m c) (R10 m c) := by
  refine (dats m 0 c).arrAt_eq_of_after_last 15 pt (by decide +kernel) _ fun y => ?_
  blk_simp
  rw [after0_15, out15_eq, blk0, blk1, blk2, blk3, blk4, blk5, blk6, blk7, blk8, blk9, blk10]
theorem final16 : (dats m 0 c).arrAt 16 cfg0.N = G16 (R0 m c) (R1 m c) (R2 m c) (R3 m c) (R4 m c) (R5 m c) (R6 m c) (R7 m c) (R8 m c) (R9 m c) (R10 m c) := by
  refine (dats m 0 c).arrAt_eq_of_after_last 16 pt (by decide +kernel) _ fun y => ?_
  blk_simp
  rw [after0_16, out16_eq, blk0, blk1, blk2, blk3, blk4, blk5, blk6, blk7, blk8, blk9, blk10]

/-- An argument's array is left as it was. -/
theorem kept (r : PUnit × MemSt nD τ sig (Elt F)) (h : Pipeline.FramePost cfgs (dats m) 0 (V m) r) (w : Fin cfg0.W)
    (hw : (cfg0.win w).isOut = false) :
    r.2.mem ((cfg0.spec w).arr.view.loc (c : Thread nD τ)) = V m c (Pipeline.arrRef spec0 w) :=
  (h.in_eq c w hw).trans (A_eq m c w)

/-- The reference runs, its six results end at their functions of the arguments, and its arguments are unchanged. -/
theorem run : θ_run defs (onTc (τ := τ) (main (F := F))) ⟨m, fun _ => 0, ρ⟩ fun r => ∀ c : Dev nD,
      r.2.mem ((c : Thread nD τ).loc main_v0_0) = G11 (R0 m c) (R1 m c) (R2 m c) (R3 m c) (R4 m c) (R5 m c) (R6 m c) (R7 m c) (R8 m c) (R9 m c) (R10 m c)
      ∧ r.2.mem ((c : Thread nD τ).loc main_v0_1) = G12 (R0 m c) (R1 m c) (R2 m c) (R3 m c) (R4 m c) (R5 m c) (R6 m c) (R7 m c) (R8 m c) (R9 m c) (R10 m c)
      ∧ r.2.mem ((c : Thread nD τ).loc main_v0_2) = G13 (R0 m c) (R1 m c) (R2 m c) (R3 m c) (R4 m c) (R5 m c) (R6 m c) (R7 m c) (R8 m c) (R9 m c) (R10 m c)
      ∧ r.2.mem ((c : Thread nD τ).loc main_v0_3) = G14 (R0 m c) (R1 m c) (R2 m c) (R3 m c) (R4 m c) (R5 m c) (R6 m c) (R7 m c) (R8 m c) (R9 m c) (R10 m c)
      ∧ r.2.mem ((c : Thread nD τ).loc main_v0_4) = G15 (R0 m c) (R1 m c) (R2 m c) (R3 m c) (R4 m c) (R5 m c) (R6 m c) (R7 m c) (R8 m c) (R9 m c) (R10 m c)
      ∧ r.2.mem ((c : Thread nD τ).loc main_v0_5) = G16 (R0 m c) (R1 m c) (R2 m c) (R3 m c) (R4 m c) (R5 m c) (R6 m c) (R7 m c) (R8 m c) (R9 m c) (R10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.out_eq c 11).trans (final11 m c), (h.out_eq c 12).trans (final12 m c), (h.out_eq c 13).trans (final13 m c), (h.out_eq c 14).trans (final14 m c), (h.out_eq c 15).trans (final15 m c), (h.out_eq c 16).trans (final16 m c),
    kept m c r h 0 rfl, kept m c r h 1 rfl, kept m c r h 2 rfl, kept m c r h 3 rfl, kept m c r h 4 rfl, kept m c r h 5 rfl, kept m c r h 6 rfl, kept m c r h 7 rfl, kept m c r h 8 rfl, kept m c r h 9 rfl, kept m c r h 10 rfl⟩) (run_main m ρ)

end Cert.ReferenceIdeal.Value

end
-- ==== Proof.RefPoint.lean ====
/- The reference's arrays at one element, over the extended reals. -/
module

public import proofs.«01_k».proof.Proof.ReferenceValue
public import proofs.«01_k».proof.Proof.Spec
public import Idealize.ShloMosaic.Lib.Pointwise

@[expose] public section

set_option maxRecDepth 16384

noncomputable section

namespace Cert.ReferenceIdeal.Point

open Cert.ReferenceIdeal Cert.ReferenceIdeal.Gen Cert.ReferenceIdeal.Value Idealize.ShloMosaic

variable (a0 : Vec Ideal S6x18432x128 .f32) (a1 a2 : Vec Ideal S6x18432 .f32) (a3 : Vec Ideal S672x18432 .fp8e4m3) (a4 : Vec Ideal S6x18432 .f32) (a5 a6 : Vec Ideal S6x112x1 .f32) (a7 : Vec Ideal S18432x2304 .fp8e4m3) (a8 : Vec Ideal S1x18432 .f32) (a9 : Vec Ideal S672x2304 .fp8e4m3) (a10 : Vec Ideal S1x2304 .f32)

/-- Head `h`'s row at node `n`. -/
def row (h : Fin 6) (n : Fin 18432) (f : Fin 112) : EReal :=
  Spec.dh (a0 (ix3 h n ⟨f.val, by omega⟩)) (a1 (ix2 h n)) (a5 (ix3 h f 0)) (a2 (ix2 h n)) (a6 (ix3 h f 0))

theorem pay4_apply (h : Fin 6) (f : Fin 112) (n : Fin 18432) : k0_pay4 a0 a1 a5 a2 a6 (ix3 h f n) = row a0 a1 a2 a5 a6 h n f := by
  unfold row Spec.dh
  pointwise [k0_pay4]

/-- The exponents of all rows, from the rows' largest absolute values. -/
def expoV (v : FVec Ideal S6x18432 .f32) : FVec Ideal S6x18432 .f32 :=
  select (cmpf .oeq v (broadcast S6x18432 (Scalar.ofBits .f32 0x00000000#32))) (broadcast S6x18432 (Scalar.ofBits .f32 0x00000000#32))
    (addf (floor (divf (log (mulf v (broadcast S6x18432 (Scalar.ofBits .f32 0x37924925#32)))) (log (broadcast S6x18432 (Scalar.ofBits .f32 0x40000000#32)))))
      (broadcast S6x18432 (Scalar.ofBits .f32 0x3F800000#32)))

theorem expoV_apply (v : FVec Ideal S6x18432 .f32) (i : S6x18432.Idx) : expoV v i = Quant.rExpo (F := Ideal) (v i) := rfl

/-- The rows' largest absolute values. -/
def mxV (d : FVec Ideal S6x112x18432 .f32) : FVec Ideal S6x18432 .f32 :=
  multiReduction .maximumf [1] S6x18432 (absf d) 0xFF800000#32 reduces_S6x112x18432_S6x18432 (.inl rfl) rfl

theorem mxV_apply (d : FVec Ideal S6x112x18432 .f32) (h : Fin 6) (n : Fin 18432) : mxV d (ix2 h n) = Spec.amx fun f => d (ix3 h f n) := by
  unfold Spec.amx
  pointwise [mxV]

theorem pay5_apply (h : Fin 6) (n : Fin 18432) : k0_pay5 a0 a1 a5 a2 a6 (ix2 h n) = Quant.rExpo (F := Ideal) (Spec.amx (row a0 a1 a2 a5 a6 h n)) := by
  have e : k0_pay5 a0 a1 a5 a2 a6 = expoV (mxV (k0_pay4 a0 a1 a5 a2 a6)) := rfl
  rw [e, expoV_apply, mxV_apply]
  simp only [pay4_apply]

theorem exp2_at {s : Shape} (v : FVec Ideal s .f32) (i : s.Idx) : exp2 v i = FloatOps.exp2 (v i) := rfl

theorem pay6_apply (h : Fin 6) (n : Fin 18432) : k0_pay6 a0 a1 a5 a2 a6 (ix2 h n) = Spec.rscale (row a0 a1 a2 a5 a6 h n) := by
  have e : k0_pay6 a0 a1 a5 a2 a6 = exp2 (k0_pay5 a0 a1 a5 a2 a6) := rfl
  unfold Spec.rscale Quant.rScale
  rw [e, exp2_at, pay5_apply]

/-- Values times the inverse scales of their rows' exponents. -/
def scaledV (d : FVec Ideal S6x112x18432 .f32) (e : FVec Ideal S6x18432 .f32) : FVec Ideal S6x112x18432 .f32 :=
  mulf d (broadcastTo S6x112x18432 (shapeCast S6x1x18432 (exp2 (subf (broadcast S6x18432 (Scalar.ofBits .f32 0x00000000#32)) e))
    shapeCasts_S6x18432_S6x1x18432) broadcasts_S6x1x18432_S6x112x18432)

theorem scaledV_apply (d : FVec Ideal S6x112x18432 .f32) (e : FVec Ideal S6x18432 .f32) (h : Fin 6) (f : Fin 112) (n : Fin 18432) :
    scaledV d e (ix3 h f n) = d (ix3 h f n) * FloatOps.exp2 (F := Ideal) (φ := .f32) (FloatOps.subf (Scalar.ofBits .f32 0x00000000#32) (e (ix2 h n))) := by
  pointwise [scaledV]

theorem pay7_apply (h : Fin 6) (f : Fin 112) (n : Fin 18432) : k0_pay7 a0 a1 a5 a2 a6 (ix3 h f n)
    = row a0 a1 a2 a5 a6 h n f * Quant.rInv (F := Ideal) (Spec.amx (row a0 a1 a2 a5 a6 h n)) := by
  have e : k0_pay7 a0 a1 a5 a2 a6 = scaledV (k0_pay4 a0 a1 a5 a2 a6) (k0_pay5 a0 a1 a5 a2 a6) := rfl
  unfold Quant.rInv
  rw [e, scaledV_apply, pay4_apply, pay5_apply]

theorem pay8_apply (v : FVec Ideal S6x112x18432 .f32) (h : Fin 6) (f : Fin 112) (n : Fin 18432) :
    k0_pay8 v (Scalar.ofBits .f32 0xC7600000#32) (ix3 h f n) = Spec.clip (v (ix3 h f n)) := by
  unfold Spec.clip
  pointwise [k0_pay8]

theorem pay9_apply (v : FVec Ideal S6x112x18432 .f32) (d : Fin 672) (n : Fin 18432) :
    k0_pay9 v (Scalar.ofBits .f32 0xC7600000#32) (ix2 d n) = Spec.clip (v (ix3 ⟨d.val / 112, by omega⟩ ⟨d.val % 112, by omega⟩ n)) := by
  rw [← pay8_apply]
  pointwise [k0_pay9]

theorem pay10_apply (w : FVec Ideal S6x18432 .f32) (v : FVec Ideal S6x112x18432 .f32) (d : Fin 672) (n : Fin 18432) :
    k0_pay10 w v (Scalar.ofBits .f32 0xC7600000#32) (ix2 d n)
      = Spec.clip (v (ix3 ⟨d.val / 112, by omega⟩ ⟨d.val % 112, by omega⟩ n)) * w (ix2 ⟨d.val / 112, by omega⟩ n) := by
  rw [← pay8_apply]
  pointwise [k0_pay10]

theorem pay11_apply (w : FVec Ideal S6x18432 .f32) (v : FVec Ideal S6x112x18432 .f32) (n : Fin 18432) (k : Fin 2304) :
    k0_pay11 w v (Scalar.ofBits .f32 0xC7600000#32) a9 a10 (ix2 n k)
      = (∑ d : Fin 672, k0_pay10 w v (Scalar.ofBits .f32 0xC7600000#32) (ix2 d n) * a9 (ix2 d k)) * a10 (ix2 0 k) := by
  pointwise [k0_pay11]

theorem pay12_apply (w : FVec Ideal S6x18432 .f32) (v : FVec Ideal S6x112x18432 .f32) (d : Fin 672) (k : Fin 2304) :
    k0_pay12 w v (Scalar.ofBits .f32 0xC7600000#32) a7 a8 (ix2 d k)
      = ∑ n : Fin 18432, k0_pay10 w v (Scalar.ofBits .f32 0xC7600000#32) (ix2 d n) * (a7 (ix2 n k) * a8 (ix2 0 n)) := by
  pointwise [k0_pay12]

theorem pay2_apply (h : Fin 6) (f : Fin 112) (l : Fin 128) : k0_pay2 (k0_pay13 a3) a4 a1 (ix3 h f l)
    = ∑ n : Fin 18432, a1 (ix2 h n) * (a3 (ix2 ⟨h.val * 112 + f.val, by omega⟩ n) * a4 (ix2 h n)) := by
  pointwise [k0_pay2, k0_pay1, k0_pay13]

theorem pay3_apply (h : Fin 6) (f : Fin 112) (l : Fin 128) : k0_pay3 (k0_pay13 a3) a4 a2 (ix3 h f l)
    = ∑ n : Fin 18432, a2 (ix2 h n) * (a3 (ix2 ⟨h.val * 112 + f.val, by omega⟩ n) * a4 (ix2 h n)) := by
  pointwise [k0_pay3, k0_pay1, k0_pay13]
end Cert.ReferenceIdeal.Point

end
-- ==== Proof.Agree.lean ====
module

public import proofs.«01_k».proof.Proof.KernelValue
public import proofs.«01_k».proof.Proof.RefPoint

/-!
Over the extended reals, on rows in range, the kernel's six closed forms are the reference's six arrays.
-/

@[expose] public section
set_option maxRecDepth 16384
noncomputable section
namespace Cert.ReferenceIdeal.Point

open Cert.ReferenceIdeal Cert.ReferenceIdeal.Gen Cert.ReferenceIdeal.Value Idealize.ShloMosaic
open Cert.KernelIdeal.Final (kr kc kd k11 k12 k13 k15 k16)

variable (a0 : Vec Ideal S6x18432x128 .f32) (a1 a2 : Vec Ideal S6x18432 .f32) (a3 : Vec Ideal S672x18432 .fp8e4m3) (a4 : Vec Ideal S6x18432 .f32) (a5 a6 : Vec Ideal S6x112x1 .f32) (a7 : Vec Ideal S18432x2304 .fp8e4m3) (a8 : Vec Ideal S1x18432 .f32) (a9 : Vec Ideal S672x2304 .fp8e4m3) (a10 : Vec Ideal S1x2304 .f32)

theorem z2 : (![0, 0] : Fin 2 → Nat) = fun _ => 0 := by decide
theorem z3 : (![0, 0, 0] : Fin 3 → Nat) = fun _ => 0 := by decide

/-- The payloads over whole loads are the payloads of the arrays. -/
theorem pay14_eq : k0_pay14 a0 a1 a2 a3 a4 a5 a6 a7 a8 a9 a10 = k0_pay6 a0 a1 a5 a2 a6 := by
  unfold k0_pay14
  rw [View.ld_unit_zero (S := S6x18432x128) z3 _ a0, View.ld_unit_zero (S := S6x18432) z2 _ a1, View.ld_unit_zero (S := S6x112x1) z3 _ a5,
    View.ld_unit_zero (S := S6x18432) z2 _ a2, View.ld_unit_zero (S := S6x112x1) z3 _ a6]
theorem pay15_eq : k0_pay15 a0 a1 a2 a3 a4 a5 a6 a7 a8 a9 a10 = k0_pay7 a0 a1 a5 a2 a6 := by
  unfold k0_pay15
  rw [View.ld_unit_zero (S := S6x18432x128) z3 _ a0, View.ld_unit_zero (S := S6x18432) z2 _ a1, View.ld_unit_zero (S := S6x112x1) z3 _ a5,
    View.ld_unit_zero (S := S6x18432) z2 _ a2, View.ld_unit_zero (S := S6x112x1) z3 _ a6]
theorem pay16_eq : k0_pay16 a0 a1 a2 a3 a4 a5 a6 a7 a8 a9 a10 = k0_pay13 a3 := by
  unfold k0_pay16
  rw [View.ld_unit_zero (S := S672x18432) z2 _ a3]

/-- The reference's rows are the kernel's. -/
theorem row_eq (h : Fin 6) (n : Fin 18432) : row a0 a1 a2 a5 a6 h n = kr a0 a1 a2 a5 a6 h n := rfl

/-- Every row's largest absolute value is in range. -/
def RowsOk : Prop := ∀ (h : Fin 6) (n : Fin 18432), Quant.InRange (Spec.amx (kr a0 a1 a2 a5 a6 h n))

/-- On rows in range the reference's code is the kernel's. -/
theorem code_agree (H : RowsOk a0 a1 a2 a5 a6) (d : Fin 672) (n : Fin 18432) :
    Spec.clip (k0_pay7 a0 a1 a5 a2 a6 (ix3 ⟨d.val / 112, by omega⟩ ⟨d.val % 112, by omega⟩ n)) = kc a0 a1 a2 a5 a6 d n := by
  unfold kc
  rw [pay7_apply, row_eq, Spec.code_eq _ (H _ _)]
  rfl

/-- On rows in range the reference's rescaled code is the kernel's. -/
theorem resc_agree (H : RowsOk a0 a1 a2 a5 a6) (d : Fin 672) (n : Fin 18432) :
    k0_pay10 (k0_pay6 a0 a1 a5 a2 a6) (k0_pay7 a0 a1 a5 a2 a6) (Scalar.ofBits .f32 0xC7600000#32) (ix2 d n) = kd a0 a1 a2 a5 a6 d n := by
  unfold kd
  rw [pay10_apply, code_agree a0 a1 a2 a5 a6 H, pay6_apply, row_eq, Spec.scale_eq _ (H _ _)]

/-- The input gradients agree. -/
theorem agree11 (H : RowsOk a0 a1 a2 a5 a6) : k11 a0 a1 a2 a5 a6 a9 a10 = G11 a0 a1 a2 a3 a4 a5 a6 a7 a8 a9 a10 := by
  unfold G11
  rw [pay14_eq, pay15_eq]
  funext y
  idx_vars y
  rw [pay11_apply]
  simp only [resc_agree a0 a1 a2 a5 a6 H]
  rfl

/-- The weight gradients agree. -/
theorem agree12 (H : RowsOk a0 a1 a2 a5 a6) : k12 a0 a1 a2 a5 a6 a7 a8 = G12 a0 a1 a2 a3 a4 a5 a6 a7 a8 a9 a10 := by
  unfold G12
  rw [pay14_eq, pay15_eq]
  funext y
  idx_vars y
  rw [pay12_apply]
  refine Finset.sum_congr rfl fun n _ => ?_
  rw [resc_agree a0 a1 a2 a5 a6 H, mul_assoc, mul_comm (a8 _)]
  rfl

/-- An attention-vector gradient with its factors in the reference's order. -/
theorem k13_apply (w : Vec Ideal S6x18432 .f32) (h : Fin 6) (f : Fin 112) (l : Fin 128) :
    k13 a3 a4 w (ix3 h f l) = ∑ n : Fin 18432, w (ix2 h n) * (a3 (ix2 ⟨h.val * 112 + f.val, by omega⟩ n) * a4 (ix2 h n)) := by
  refine Finset.sum_congr rfl fun n _ => ?_
  have e : (⟨112 * h.val + f.val, by omega⟩ : Fin 672) = ⟨h.val * 112 + f.val, by omega⟩ := Fin.ext (congrArg (· + f.val) (Nat.mul_comm 112 h.val))
  show a3 (ix2 ⟨112 * h.val + f.val, _⟩ n) * a4 (ix2 h n) * w (ix2 h n) = _
  rw [e, mul_comm]

/-- The source attention-vector gradients agree. -/
theorem agree13 : k13 a3 a4 a1 = G13 a0 a1 a2 a3 a4 a5 a6 a7 a8 a9 a10 := by
  unfold G13
  rw [pay16_eq]
  funext y
  idx_vars y
  rw [pay2_apply, k13_apply]

/-- The destination attention-vector gradients agree. -/
theorem agree14 : k13 a3 a4 a2 = G14 a0 a1 a2 a3 a4 a5 a6 a7 a8 a9 a10 := by
  unfold G14
  rw [pay16_eq]
  funext y
  idx_vars y
  rw [pay3_apply, k13_apply]

/-- The codes agree. -/
theorem agree15 (H : RowsOk a0 a1 a2 a5 a6) : k15 a0 a1 a2 a5 a6 = G15 a0 a1 a2 a3 a4 a5 a6 a7 a8 a9 a10 := by
  unfold G15
  rw [pay15_eq]
  funext y
  idx_vars y
  rw [pay9_apply, code_agree a0 a1 a2 a5 a6 H]
  rfl

/-- The scales agree. -/
theorem agree16 (H : RowsOk a0 a1 a2 a5 a6) : k16 a0 a1 a2 a5 a6 = G16 a0 a1 a2 a3 a4 a5 a6 a7 a8 a9 a10 := by
  unfold G16
  rw [pay14_eq]
  funext y
  idx_vars y
  rw [pay6_apply, row_eq, ← Spec.scale_eq _ (H _ _)]
  rfl
end Cert.ReferenceIdeal.Point

end
-- ==== Proof.PreRange.lean ====
module

public import proofs.«01_k».proof.Pre_rows_in_range
public import proofs.«01_k».proof.Proof.Agree
public import Idealize.ShloMosaic.Lib.ReduceAll
public import Idealize.ShloMosaic.Lib.KernelVsHost

/-!
The printed precondition read back: where it is 1, every row's largest absolute value is in range.
-/

@[expose] public section
set_option maxRecDepth 16384
noncomputable section
namespace Cert.Pre_rows_in_range

open Idealize.ShloMosaic

/-- The predicate's side conditions hold. -/
theorem facts : Facts where
  transposes_S6x18432x128_S6x128x18432_0_2_1 := by decide
  slices_S6x128x18432_S6x112x18432_0_0_0 := by decide
  bcast_S6x18432_S6x1x18432_0_2 := by decide
  bcast_S6x1x18432_S6x112x18432_0_1_2 := by decide
  bcast_S6x112x1_S6x112x18432_0_1_2 := by decide
  reducesTo_S6x112x18432_S6x18432_d1 := by decide
  h_S_ := by decide
  bcast_S_S6x18432 := by decide
  reducesTo_S6x18432_S_d0_1 := by decide

variable [Facts]
open Facts

variable (a0 : FVec Ideal S6x18432x128 .f32) (a1 a2 : FVec Ideal S6x18432 .f32) (a3 : FVec Ideal S672x18432 .fp8e4m3) (a4 : FVec Ideal S6x18432 .f32)
  (a5 a6 : FVec Ideal S6x112x1 .f32) (a7 : FVec Ideal S18432x2304 .fp8e4m3) (a8 : FVec Ideal S1x18432 .f32) (a9 : FVec Ideal S672x2304 .fp8e4m3)
  (a10 : FVec Ideal S1x2304 .f32)

/-- The predicate's rows. -/
def rowsV : FVec Ideal S6x112x18432 .f32 :=
  addf (addf (extractStridedSlice S6x112x18432 ![0, 0, 0] (transpose S6x128x18432 [0, 2, 1] a0 transposes_S6x18432x128_S6x128x18432_0_2_1) slices_S6x128x18432_S6x112x18432_0_0_0)
    (mulf (broadcastInDim S6x112x18432 ![0, 1, 2] bcast_S6x1x18432_S6x112x18432_0_1_2 (broadcastInDim S6x1x18432 ![0, 2] bcast_S6x18432_S6x1x18432_0_2 a1))
      (broadcastInDim S6x112x18432 ![0, 1, 2] bcast_S6x112x1_S6x112x18432_0_1_2 a5)))
    (mulf (broadcastInDim S6x112x18432 ![0, 1, 2] bcast_S6x1x18432_S6x112x18432_0_1_2 (broadcastInDim S6x1x18432 ![0, 2] bcast_S6x18432_S6x1x18432_0_2 a2))
      (broadcastInDim S6x112x18432 ![0, 1, 2] bcast_S6x112x1_S6x112x18432_0_1_2 a6))

/-- The predicate's row maxima, of any rows. -/
def maxV (d : FVec Ideal S6x112x18432 .f32) : FVec Ideal S6x18432 .f32 :=
  Host.reduce FloatOps.maximumf (Host.absf d) (constant S_ .f32 0xFF800000#32) reducesTo_S6x112x18432_S6x18432_d1 h_S_

/-- The predicate's test, of any row maxima. -/
def testV (v : FVec Ideal S6x18432 .f32) : IVec S6x18432 1 :=
  ori (cmpf .oeq v (broadcastInDim S6x18432 ![] bcast_S_S6x18432 (constant (F := Ideal) S_ .f32 0x00000000#32)))
    (andi (cmpf .oge (mulf v (broadcastInDim S6x18432 ![] bcast_S_S6x18432 (constant (F := Ideal) S_ .f32 0x37924925#32))) (broadcastInDim S6x18432 ![] bcast_S_S6x18432 (constant (F := Ideal) S_ .f32 0x00800000#32)))
      (cmpf .olt (mulf v (broadcastInDim S6x18432 ![] bcast_S_S6x18432 (constant (F := Ideal) S_ .f32 0x37924925#32))) (broadcastInDim S6x18432 ![] bcast_S_S6x18432 (constant (F := Ideal) S_ .f32 0x7E800000#32))))

/-- The predicate is the test of the rows' maxima, all of it. -/
theorem fn_eq : fn (F := Ideal) a0 a1 a2 a3 a4 a5 a6 a7 a8 a9 a10
    = Host.reduce IntOp.andi (testV (maxV (rowsV a0 a1 a2 a5 a6))) (constantI S_ 1 1#1) reducesTo_S6x18432_S_d0_1 h_S_ := rfl

theorem rowsV_apply (h : Fin 6) (f : Fin 112) (n : Fin 18432) :
    rowsV a0 a1 a2 a5 a6 (ix3 h f n) = Cert.KernelIdeal.Final.kr a0 a1 a2 a5 a6 h n f := by
  unfold Cert.KernelIdeal.Final.kr Spec.dh
  pointwise [rowsV]

theorem maxV_apply (d : FVec Ideal S6x112x18432 .f32) (h : Fin 6) (n : Fin 18432) :
    maxV d (ix2 h n) = Spec.amx fun f => d (ix3 h f n) := by
  unfold Spec.amx
  pointwise [maxV]

omit [Facts] in
/-- A decided comparison that is 1 holds. -/
theorem of_decide_one {p : Prop} [Decidable p] (h : BitVec.ofBool (decide p) = 1#1) : p := by
  by_contra hp
  rw [decide_eq_false hp] at h
  exact absurd h (by decide)

omit [Facts] in
/-- The zero word is zero. -/
theorem zero_bits : (Ideal.ofBits .f32 0x00000000#32 : EReal) = 0 := by
  simp

theorem testV_apply (v : FVec Ideal S6x18432 .f32) (h : Fin 6) (n : Fin 18432) (e : testV v (ix2 h n) = 1#1) :
    Quant.InRange (v (ix2 h n)) := by
  have e' : IntOp.ori (FloatOps.cmpf (F := Ideal) (φ := .f32) .oeq (v (ix2 h n)) (Scalar.ofBits .f32 0x00000000#32))
    (IntOp.andi (FloatOps.cmpf (F := Ideal) (φ := .f32) .oge (Quant.quo (F := Ideal) (v (ix2 h n))) (Scalar.ofBits .f32 0x00800000#32))
      (FloatOps.cmpf (F := Ideal) (φ := .f32) .olt (Quant.quo (F := Ideal) (v (ix2 h n))) (Scalar.ofBits .f32 0x7E800000#32))) = 1#1 := e
  unfold Quant.InRange
  rw [← Quant.lo_bits, ← Quant.hi_bits]
  rcases IntOp.ori_eq_one.1 e' with h1 | h1
  · exact Or.inl ((of_decide_one h1).trans zero_bits)
  · obtain ⟨h2, h3⟩ := IntOp.andi_eq_one.1 h1
    exact Or.inr ⟨of_decide_one h2, of_decide_one h3⟩

/-- Where the predicate is 1, every row is in range. -/
theorem rows_ok (e : fn (F := Ideal) a0 a1 a2 a3 a4 a5 a6 a7 a8 a9 a10 = fun _ => 1#1) :
    Cert.ReferenceIdeal.Point.RowsOk a0 a1 a2 a5 a6 := by
  intro h n
  rw [fn_eq] at e
  have : Subsingleton S_.Idx := ⟨fun a b => funext fun i => i.elim0⟩
  have t := testV_apply _ h n (Host.reduce_andi_all _ _ _ _ (fun i => i.elim0) (congrFun e _) (ix2 h n))
  rw [maxV_apply] at t
  simpa only [rowsV_apply] using t

end Cert.Pre_rows_in_range
end
-- ==== Proof.PrepSpec.lean ====
module

public import Idealize.ShloMosaic.Lib.Pointwise
public import Idealize.ShloMosaic.PureOps.Ideal

/-!
The preparation call's results, over the extended reals: functions of codes, scales and attention vectors for any number of nodes,
so that one block of nodes and the whole arrays are instances of the same definitions.
-/

@[expose] public section
noncomputable section
namespace Cert.Prepare
open Idealize.ShloMosaic

variable {n : ℕ}

/-- A row's head: rows 0 to 5 and rows 8 to 13 are the heads. -/
def headOf (d : Fin 16) : Fin 6 := ⟨d.val % 8 % 6, Nat.mod_lt _ (by decide)⟩

/-- One node's sixteen scores: the heads' features `h` against the source vector in rows 0 to 5, against the target vector in
rows 8 to 13, and zeros. -/
def score (h : Fin 6 → Fin 112 → EReal) (a b : Fin 6 → Fin 112 → EReal) (d : Fin 16) : EReal :=
  if d.val % 8 < 6 then ∑ f : Fin 112, h (headOf d) f * (if d.val < 8 then a else b) (headOf d) f else 0

/-- The scores of all nodes. -/
def scores (x0 : Vec Ideal ⟨3, ![6, 112, n]⟩ .fp8e4m3) (x2 : Vec Ideal ⟨2, ![6, n]⟩ .f32) (x4 x5 : Vec Ideal ⟨3, ![6, 112, 1]⟩ .f32) :
    Vec Ideal ⟨2, ![16, n]⟩ .f32 := fun y =>
  score (fun h f => x0 (ix3 h f (y 1)) * x2 (ix2 h (y 1))) (fun h f => x4 (ix3 h f 0)) (fun h f => x5 (ix3 h f 0)) (y 0)

/-- The node whose gradients lie at row `r` and lane `l`. -/
def nodeOf (r l : ℕ) : ℕ := 256 * (r / 256) + 128 * (l / 64) + r % 256 / 2
/-- The feature at row `r` and lane `l`. -/
def featOf (r l : ℕ) : ℕ := 64 * (r % 2) + l % 64

/-- The node of a row below a multiple of 256 is below it too. -/
theorem nodeOf_lt (hn : 256 ∣ n) {r l : ℕ} (hr : r < n) (hl : l < 128) : nodeOf r l < n := by
  obtain ⟨q, rfl⟩ := hn
  unfold nodeOf
  omega

/-- The scaled output gradients, two nodes' features side by side and a node's two halves one above the other; zero past the last
feature. -/
def grads (hn : 256 ∣ n) (x1 : Vec Ideal ⟨3, ![6, 112, n]⟩ .fp8e5m2) (x3 : Vec Ideal ⟨2, ![6, n]⟩ .f32) :
    Vec Ideal ⟨3, ![6, n, 128]⟩ .bf16 := fun y =>
  if hf : featOf (y 1).val (y 2).val < 112 then
    x1 (ix3 (y 0) ⟨_, hf⟩ ⟨_, nodeOf_lt hn (y 1).isLt (y 2).isLt⟩) * x3 (ix2 (y 0) ⟨_, nodeOf_lt hn (y 1).isLt (y 2).isLt⟩)
  else 0

/-- Codes with heads and features on one axis. -/
def flat {e : EltTy} (x : Vec Ideal ⟨3, ![6, 112, n]⟩ e) : Vec Ideal ⟨2, ![672, n]⟩ e := fun y =>
  x (ix3 ⟨(y 0).val / 112, by have := (y 0).isLt; simp at this; omega⟩ ⟨(y 0).val % 112, Nat.mod_lt _ (by decide)⟩ (y 1))

end Cert.Prepare
end
-- ==== Proof.PrepPieces.lean ====
module

public import proofs.«01_k».proof.Proof.PrepSpec
public import proofs.«01_k».proof.Proof.KernelPieces
public import proofs.«01_k».proof.Proof.Gen.PrepIdeal.Value
public import Idealize.ShloMosaic.Lib.Pipeline.ValueKit

/-!
The values the preparation kernel stores, at one element, and how its lists of stores read as the closed forms.
-/

@[expose] public section
set_option maxRecDepth 16384
noncomputable section
namespace Cert.PrepIdeal.Pieces
open Cert.PrepIdeal Cert.PrepIdeal.Gen Cert.Prepare Cert.KernelIdeal.Heads Idealize.ShloMosaic Idealize.ShloMosaic.TcCoe Idealize.SL Idealize.SL.Sem

/-- A block's nodes fill whole chunks of 256. -/
theorem hb : 256 ∣ 1536 := ⟨6, rfl⟩

/-- Two groups of 128 nodes, from lanes `p` and `q` on, packed side by side into one chunk of 256 rows. -/
def packV (p q : ℕ) (v : FVec Ideal S128x1536 .f32) (hp : S128x1536.Slices ![0, p] S128x128) (hq : S128x1536.Slices ![0, q] S128x128) : FVec Ideal S1x256x128 .bf16 :=
  have v38 : IVec S128x128 32 := iota .tc S128x128 32 [1] iota_S128x128_d1_w32
  have v40 : FVec Ideal S128x128 .f32 := transpose S128x128 [1, 0] (extractStridedSlice S128x128 ![0, p] v hp) transposes_S128x128_p1_0_S128x128
  have v42 : FVec Ideal S128x128 .f32 := transpose S128x128 [1, 0] (extractStridedSlice S128x128 ![0, q] v hq) transposes_S128x128_p1_0_S128x128
  have v43 : FVec Ideal S128x128 .f32 := dynamicRotate 1 64#32 none v40 rotates_S128x128_d1
  have v44 : FVec Ideal S128x128 .f32 := dynamicRotate 1 64#32 none v42 rotates_S128x128_d1
  have v46 : IVec S128x128 1 := cmpi .slt v38 (broadcast S128x128 64#32)
  have v47 : FVec Ideal S128x128 .f32 := select v46 v40 v44
  have v51 : FVec Ideal S128x128 .f32 := select v46 v43 v42
  have v58 : FVec Ideal S256x128 .bf16 := interleaveRows S256x128 (truncf .bf16 v47) (truncf .bf16 v51) bitcasts_S256x128_w16_S128x128_w32
  shapeCast S1x256x128 v58 shapeCasts_S256x128_S1x256x128

/-- The comparison of a lane's number with 64. -/
theorem lane_lt : ∀ l : Fin 128, IntOp.cmpi .slt (BitVec.ofNat 32 l.val) 64#32 = if l.val < 64 then 1#1 else 0#1 := by
  decide +kernel

/-- A choice by the lane's half. -/
theorem select_lane {α : Type} (l : Fin 128) (a b : α) :
    Scalar.select (IntOp.cmpi .slt (BitVec.ofNat 32 l.val) 64#32) a b = if l.val < 64 then a else b := by
  rw [lane_lt]
  by_cases h : l.val < 64
  · rw [if_pos h, if_pos h]; rfl
  · rw [if_neg h, if_neg h]; rfl

/-- A packed chunk at a row and a lane: one feature of one node. -/
theorem packV_apply (p q : ℕ) (v : FVec Ideal S128x1536 .f32) (hp) (hq) (z : Fin 1) (r : Fin 256) (l : Fin 128) (f : Fin 128) (k : Fin 1536)
    (hf : f.val = featOf r.val l.val) (hk : k.val = (if l.val < 64 then p else q) + r.val / 2) :
    packV p q v hp hq (ix3 z r l) = v (ix2 f k) := by
  have hl := l.isLt
  have at_eq : ∀ (f' : Fin 128) (k' : Fin 1536), f'.val = f.val → k'.val = k.val → v (ix2 f' k') = v (ix2 f k) := fun f' k' h1 h2 => by
    rw [Fin.ext h1, Fin.ext h2]
  unfold featOf at hf
  pointwise [packV]
  simp only [select_lane]
  by_cases h : l.val < 64
  · rw [if_pos h] at hk
    simp only [if_pos h]
    by_cases hr : r.val % 2 = 0
    · rw [if_pos hr]
      exact at_eq _ _ (by first | omega | (simp only; omega)) (by simp only; omega)
    · rw [if_neg hr]
      exact at_eq _ _ (by first | omega | (simp only; omega)) (by simp only; omega)
  · rw [if_neg h] at hk
    simp only [if_neg h]
    by_cases hr : r.val % 2 = 0
    · rw [if_pos hr]
      exact at_eq _ _ (by first | omega | (simp only; omega)) (by simp only; omega)
    · rw [if_neg hr]
      exact at_eq _ _ (by first | omega | (simp only; omega)) (by simp only; omega)

/-- A head's scaled gradients with sixteen rows of zeros below them. -/
theorem pad_apply (v26 : Vec Ideal S1x112x1536 .fp8e5m2) (v33 : Vec Ideal S1x1536 .f32) (f : Fin 128) (k : Fin 1536) :
    k0_pay13 (k0_pay10 v26) v33 (ix2 f k) = if hf : f.val < 112 then v26 (ix3 0 ⟨f.val, hf⟩ k) * v33 (ix2 0 k) else 0 := by
  pointwise [k0_pay13, k0_pay10]

/-- A head's score row. -/
theorem row_apply (v2 : Vec Ideal S1x112x1536 .fp8e4m3) (v5 : Vec Ideal S1x1536 .f32) (v8 : Vec Ideal S1x112x1 .f32) (z : Fin 1) (s : Fin 1536) :
    k0_pay7 v2 v5 v8 (ix2 z s) = ∑ f : Fin 112, (v2 (ix3 0 f s) * v5 (ix2 0 s)) * v8 (ix3 0 f 0) := by
  pointwise [k0_pay7, k0_pay6, k0_pay5]

theorem code4_apply (v2 : Vec Ideal S1x112x1536 .fp8e4m3) (f : Fin 112) (s : Fin 1536) : k0_pay9 v2 (ix2 f s) = v2 (ix3 0 f s) := by
  pointwise [k0_pay9, k0_pay5]
theorem code5_apply (v2 : Vec Ideal S1x112x1536 .fp8e5m2) (f : Fin 112) (s : Fin 1536) : k0_pay12 (k0_pay11 v2) (ix2 f s) = v2 (ix3 0 f s) := by
  pointwise [k0_pay12, k0_pay11, k0_pay10]

/-! ## Read through the kernel's loads -/

section Loads
variable (x0 : Vec Ideal S6x112x1536 .fp8e4m3) (x1 : Vec Ideal S6x112x1536 .fp8e5m2) (x2 x3 : Vec Ideal S6x1536 .f32) (x4 x5 : Vec Ideal S6x112x1 .f32)
variable {o : ℕ} (ho : o < 6)
  (i0 : ∀ a, (![o, 0, 0] : Fin 3 → ℕ) a + S1x112x1536.size a ≤ S6x112x1536.size a)
  (i2 : ∀ a, (![o, 0] : Fin 2 → ℕ) a + S1x1536.size a ≤ S6x1536.size a)
  (i4 : ∀ a, (![o, 0, 0] : Fin 3 → ℕ) a + S1x112x1.size a ≤ S6x112x1.size a)
include ho

/-- A head's row against one attention vector, read through the kernel's loads. -/
theorem row_ld (z : Fin 1) (s : Fin 1536) : k0_pay7 (View.ld x0 (Rect.unit ![o, 0, 0] S1x112x1536.size i0)) (View.ld x2 (Rect.unit ![o, 0] S1x1536.size i2))
    (View.ld x4 (Rect.unit ![o, 0, 0] S1x112x1.size i4)) (ix2 z s)
      = ∑ f : Fin 112, (x0 (ix3 ⟨o, ho⟩ f s) * x2 (ix2 ⟨o, ho⟩ s)) * x4 (ix3 ⟨o, ho⟩ f 0) := by
  rw [row_apply]
  refine Finset.sum_congr rfl fun f _ => ?_
  rw [ld3 x0 i0 0 f s ⟨o, ho⟩ f s rfl (by simp) (by simp), ld2 x2 i2 0 s ⟨o, ho⟩ s rfl (by simp), ld3 x4 i4 0 f 0 ⟨o, ho⟩ f 0 rfl (by simp) rfl]

/-- Its row of scores: rows 0 to 5 against the source vectors. -/
theorem lo_ld (z : Fin 1) (s : Fin 1536) (hz : o + z.val < 16) : k0_pay7 (View.ld x0 (Rect.unit ![o, 0, 0] S1x112x1536.size i0))
    (View.ld x2 (Rect.unit ![o, 0] S1x1536.size i2)) (View.ld x4 (Rect.unit ![o, 0, 0] S1x112x1.size i4)) (ix2 z s)
      = scores x0 x2 x4 x5 (ix2 ⟨o + z.val, hz⟩ s) := by
  obtain rfl : z = 0 := Subsingleton.elim _ _
  rw [row_ld x0 x2 x4 ho]
  show _ = score _ _ _ _
  unfold score
  have h1 : o % 8 < 6 := by omega
  have h2 : o < 8 := by omega
  have h3 : headOf ⟨o, by omega⟩ = ⟨o, ho⟩ := Fin.ext (by show o % 8 % 6 = o; omega)
  show _ = if o % 8 < 6 then ∑ f : Fin 112, (x0 (ix3 (headOf ⟨o, _⟩) f s) * x2 (ix2 (headOf ⟨o, _⟩) s)) * (if o < 8 then fun h f => x4 (ix3 h f 0) else fun h f => x5 (ix3 h f 0)) (headOf ⟨o, _⟩) f else 0
  rw [if_pos h1, if_pos h2, h3]

/-- Rows 8 to 13: against the target vectors. -/
theorem hi_ld {r : ℕ} (hr : r = 8 + o) (z : Fin 1) (s : Fin 1536) (hz : r + z.val < 16) : k0_pay7 (View.ld x0 (Rect.unit ![o, 0, 0] S1x112x1536.size i0))
    (View.ld x2 (Rect.unit ![o, 0] S1x1536.size i2)) (View.ld x5 (Rect.unit ![o, 0, 0] S1x112x1.size i4)) (ix2 z s)
      = scores x0 x2 x4 x5 (ix2 ⟨r + z.val, hz⟩ s) := by
  obtain rfl : z = 0 := Subsingleton.elim _ _
  subst hr
  rw [row_ld x0 x2 x5 ho]
  show _ = score _ _ _ _
  unfold score
  have h1 : (8 + o) % 8 < 6 := by omega
  have h2 : ¬ 8 + o < 8 := by omega
  have h3 : headOf ⟨8 + o, by omega⟩ = ⟨o, ho⟩ := Fin.ext (by show (8 + o) % 8 % 6 = o; omega)
  show _ = if (8 + o) % 8 < 6 then ∑ f : Fin 112, (x0 (ix3 (headOf ⟨8 + o, _⟩) f s) * x2 (ix2 (headOf ⟨8 + o, _⟩) s)) * (if 8 + o < 8 then fun h f => x4 (ix3 h f 0) else fun h f => x5 (ix3 h f 0)) (headOf ⟨8 + o, _⟩) f else 0
  rw [if_pos h1, if_neg h2, h3]

/-- A head's codes. -/
theorem c4_ld {r : ℕ} (hr : r = 112 * o) (f : Fin 112) (s : Fin 1536) (hf : r + f.val < 672) :
    k0_pay9 (View.ld x0 (Rect.unit ![o, 0, 0] S1x112x1536.size i0)) (ix2 f s) = flat x0 (ix2 ⟨r + f.val, hf⟩ s) := by
  subst hr
  rw [code4_apply, ld3 x0 i0 0 f s ⟨o, ho⟩ f s rfl (by simp) (by simp)]
  show _ = x0 (ix3 ⟨(112 * o + f.val) / 112, _⟩ ⟨(112 * o + f.val) % 112, _⟩ s)
  congr 2 <;> apply Fin.ext <;> simp only <;> omega
theorem c5_ld {r : ℕ} (hr : r = 112 * o) (f : Fin 112) (s : Fin 1536) (hf : r + f.val < 672) :
    k0_pay12 (k0_pay11 (View.ld x1 (Rect.unit ![o, 0, 0] S1x112x1536.size i0))) (ix2 f s) = flat x1 (ix2 ⟨r + f.val, hf⟩ s) := by
  subst hr
  rw [code5_apply, ld3 x1 i0 0 f s ⟨o, ho⟩ f s rfl (by simp) (by simp)]
  show _ = x1 (ix3 ⟨(112 * o + f.val) / 112, _⟩ ⟨(112 * o + f.val) % 112, _⟩ s)
  congr 2 <;> apply Fin.ext <;> simp only <;> omega

/-- A head's chunk of 256 rows from row `p` on. -/
theorem chunk_ld {p q : ℕ} (hpq : q = p + 128) (h256 : 256 ∣ p) (hp) (hq) (z : Fin 1) (r : Fin 256) (l : Fin 128) (hz : o + z.val < 6) (hr : p + r.val < 1536) :
    packV p q (k0_pay13 (k0_pay10 (View.ld x1 (Rect.unit ![o, 0, 0] S1x112x1536.size i0))) (View.ld x3 (Rect.unit ![o, 0] S1x1536.size i2))) hp hq (ix3 z r l)
      = grads hb x1 x3 (ix3 ⟨o + z.val, hz⟩ ⟨p + r.val, hr⟩ l) := by
  obtain rfl : z = 0 := Subsingleton.elim _ _
  obtain ⟨a, rfl⟩ := h256
  have hl := l.isLt
  have hrr := r.isLt
  have hk := nodeOf_lt hb (r := 256 * a + r.val) (l := l.val) hr hl
  have ef : featOf r.val l.val = featOf (256 * a + r.val) l.val := by unfold featOf; omega
  have h128 : featOf (256 * a + r.val) l.val < 128 := by unfold featOf; omega
  rw [packV_apply _ _ _ hp hq 0 r l ⟨_, h128⟩ ⟨_, hk⟩ ef.symm
    (by subst hpq; simp only [nodeOf]; by_cases h : l.val < 64 <;> simp only [h, if_true, if_false] <;> omega), pad_apply]
  show _ = if hf : featOf (256 * a + r.val) l.val < 112 then x1 (ix3 ⟨o, _⟩ ⟨_, hf⟩ ⟨nodeOf (256 * a + r.val) l.val, _⟩) * x3 (ix2 ⟨o, _⟩ ⟨nodeOf (256 * a + r.val) l.val, _⟩) else 0
  by_cases hf : featOf (256 * a + r.val) l.val < 112
  · rw [dif_pos hf, dif_pos hf]
    rw [ld3 x1 i0 0 ⟨_, hf⟩ ⟨_, hk⟩ ⟨o, ho⟩ ⟨_, hf⟩ ⟨_, hk⟩ rfl (by simp) (by simp), ld2 x3 i2 0 ⟨_, hk⟩ ⟨o, ho⟩ ⟨_, hk⟩ rfl (by simp)]
  · rw [dif_neg hf, dif_neg hf]
end Loads

/-! ## Lists of stores -/

/-- Membership in a three-axis box, along the second axis. -/
theorem mem3_row {N M K m n q a b c : ℕ} (inb) {h : Fin N} {d : Fin M} {k : Fin K}
    (hm : ix3 h d k ∈ (Rect.unit ![a, b, c] ![m, n, q] inb : Rect ⟨3, ![N, M, K]⟩).set) : b ≤ d.val := by
  have h := Rect.mem_set_unit.mp hm
  exact (h 1).1

/-- One more row, over pieces that spell `G` on every row but that one and those of `R`. -/
theorem row_step {N M o : ℕ} {e : EltTy} (R : List ℕ) (G : Vec Ideal ⟨2, ![N, M]⟩ e) (inb) (w : Vec Ideal ⟨2, ![1, M]⟩ e)
    (L : List (View.Piece (Elt Ideal) ⟨2, ![N, M]⟩ e)) (hL : ∀ (d : Fin N) (k : Fin M), d.val ∉ o :: R → View.canon L (ix2 d k) = G (ix2 d k))
    (hw : ∀ (i : Fin 1) (k : Fin M) (hi : o + i.val < N), w (ix2 i k) = G (ix2 ⟨o + i.val, hi⟩ k)) :
    ∀ (d : Fin N) (k : Fin M), d.val ∉ R →
      View.canon ((⟨Rect.unit ![o, 0] ![1, M] inb, w⟩ : View.Piece (Elt Ideal) ⟨2, ![N, M]⟩ e) :: L) (ix2 d k) = G (ix2 d k) := by
  intro d k hd
  by_cases h : d.val = o
  · have e : (ix2 d k : (⟨2, ![N, M]⟩ : Shape).Idx) = (Rect.unit ![o, 0] ![1, M] inb : Rect ⟨2, ![N, M]⟩).emb (ix2 0 k) := by
      rw [emb2]
      congr 1
      · apply Fin.ext; simp [h]
      · apply Fin.ext; simp
    have e2 : d = ⟨o + (0 : Fin 1).val, by have := d.isLt; simp; omega⟩ := Fin.ext (by simp [h])
    have := View.canon_cons_emb (Rect.unit ![o, 0] ![1, M] inb : Rect ⟨2, ![N, M]⟩) w L (ix2 0 k)
    rw [← e] at this
    rw [this, hw _ _ (by have := d.isLt; simp; omega), ← e2]
  · rw [View.canon_cons_of_not_mem _ _ (by intro hm; have := (mem2 inb hm).1; omega)]
    exact hL d k (by rw [List.mem_cons]; exact fun h' => h'.elim h hd)

/-- One more chunk of rows of a head, over pieces that spell `G` on the rows before it, heads in order. -/
theorem chunk_step {N M K m o p n : ℕ} {e : EltTy} (G : Vec Ideal ⟨3, ![N, M, K]⟩ e) (inb) (w : Vec Ideal ⟨3, ![1, m, K]⟩ e)
    (L : List (View.Piece (Elt Ideal) ⟨3, ![N, M, K]⟩ e)) (hn : n ≤ M * o + p + m)
    (hL : ∀ (h : Fin N) (f : Fin M) (l : Fin K), M * h.val + f.val < M * o + p → View.canon L (ix3 h f l) = G (ix3 h f l))
    (hw : ∀ (z : Fin 1) (r : Fin m) (l : Fin K) (hz : o + z.val < N) (hr : p + r.val < M), w (ix3 z r l) = G (ix3 ⟨o + z.val, hz⟩ ⟨p + r.val, hr⟩ l)) :
    ∀ (h : Fin N) (f : Fin M) (l : Fin K), M * h.val + f.val < n →
      View.canon ((⟨Rect.unit ![o, p, 0] ![1, m, K] inb, w⟩ : View.Piece (Elt Ideal) ⟨3, ![N, M, K]⟩ e) :: L) (ix3 h f l) = G (ix3 h f l) := by
  intro h f l hd
  by_cases hlt : M * h.val + f.val < M * o + p
  · rw [View.canon_cons_of_not_mem _ _ (by
      intro hm
      have h0 := mem3 inb hm
      have h1 := mem3_row inb hm
      have e0 : h.val = o := Nat.le_antisymm (Nat.lt_succ_iff.mp h0.2) h0.1
      have e1 : p ≤ f.val := h1
      rw [e0] at hlt
      omega)]
    exact hL h f l hlt
  · have hin := inb 1
    have hpm : p + m ≤ M := hin
    have hf := f.isLt
    have e0 : h.val = o := by
      rcases Nat.lt_trichotomy h.val o with c | c | c
      · have := Nat.mul_le_mul_left M (Nat.succ_le_of_lt c)
        rw [Nat.mul_succ] at this
        omega
      · exact c
      · have := Nat.mul_le_mul_left M (Nat.succ_le_of_lt c)
        rw [Nat.mul_succ] at this
        omega
    rw [e0] at hd hlt
    have hr : f.val - p < m := by omega
    have e : (ix3 h f l : (⟨3, ![N, M, K]⟩ : Shape).Idx) = (Rect.unit ![o, p, 0] ![1, m, K] inb : Rect ⟨3, ![N, M, K]⟩).emb (ix3 0 ⟨f.val - p, hr⟩ l) := by
      rw [emb3]
      congr 1
      · apply Fin.ext; simp [e0]
      · apply Fin.ext; simp only; omega
      · apply Fin.ext; simp
    have e2 : h = ⟨o + (0 : Fin 1).val, by have := h.isLt; simp; omega⟩ := Fin.ext (by simp [e0])
    have e3 : f = ⟨p + (f.val - p), by omega⟩ := Fin.ext (by simp only; omega)
    have := View.canon_cons_emb (Rect.unit ![o, p, 0] ![1, m, K] inb : Rect ⟨3, ![N, M, K]⟩) w L (ix3 0 ⟨f.val - p, hr⟩ l)
    rw [← e] at this
    rw [this, hw _ _ _ (by have := h.isLt; simp; omega) (by simp only; omega), ← e2, ← e3]

/-- When no row is left out, the list spells `G`. -/
theorem rows_nil {N M : ℕ} {e : EltTy} {G : Vec Ideal ⟨2, ![N, M]⟩ e} {L : List (View.Piece (Elt Ideal) ⟨2, ![N, M]⟩ e)}
    (h : ∀ (d : Fin N) (k : Fin M), d.val ∉ ([] : List ℕ) → View.canon L (ix2 d k) = G (ix2 d k)) : View.canon L = G :=
  rows_all fun d k _ => h d k List.not_mem_nil

/-- After the last chunk of the last head, the list spells `G`. -/
theorem chunks_all {N M K n : ℕ} (hn : M * N ≤ n) {e : EltTy} {G : Vec Ideal ⟨3, ![N, M, K]⟩ e} {L : List (View.Piece (Elt Ideal) ⟨3, ![N, M, K]⟩ e)}
    (H : ∀ (h : Fin N) (f : Fin M) (l : Fin K), M * h.val + f.val < n → View.canon L (ix3 h f l) = G (ix3 h f l)) : View.canon L = G :=
  heads_all fun h f l _ => H h f l (by
    have h1 := Nat.mul_le_mul_left M (Nat.succ_le_of_lt h.isLt)
    rw [Nat.mul_succ] at h1
    have := f.isLt
    omega)

end Cert.PrepIdeal.Pieces
end
-- ==== Proof.PrepRun.lean ====
module

public import proofs.«01_k».proof.Proof.PrepPieces

/-!
What a grid point of the preparation kernel leaves in each of its output blocks, as the closed forms of `PrepSpec`.
-/

@[expose] public section
set_option maxRecDepth 16384
noncomputable section
namespace Cert.PrepIdeal.Run
open Cert.PrepIdeal Cert.PrepIdeal.Gen Cert.PrepIdeal.Pieces Cert.Prepare Cert.KernelIdeal.Heads Idealize.ShloMosaic Idealize.ShloMosaic.TcCoe Idealize.SL Idealize.SL.Sem

variable (c : Dev nD) (i : grid0.Coords) (arg1 : Memref sig .tc .vmem S6x112x1536 .fp8e4m3) (harg1 : arg1.IsWhole) (arg2 : Memref sig .tc .vmem S6x112x1536 .fp8e5m2) (harg2 : arg2.IsWhole) (arg3 : Memref sig .tc .vmem S6x1536 .f32) (harg3 : arg3.IsWhole) (arg4 : Memref sig .tc .vmem S6x1536 .f32) (harg4 : arg4.IsWhole) (arg5 : Memref sig .tc .vmem S6x112x1 .f32) (harg5 : arg5.IsWhole) (arg6 : Memref sig .tc .vmem S6x112x1 .f32) (harg6 : arg6.IsWhole) (arg7 : Memref sig .tc .vmem S16x1536 .f32) (harg7 : arg7.IsWhole) (arg8 : Memref sig .tc .vmem S6x1536x128 .bf16) (harg8 : arg8.IsWhole) (arg9 : Memref sig .tc .vmem S672x1536 .fp8e4m3) (harg9 : arg9.IsWhole) (arg10 : Memref sig .tc .vmem S672x1536 .fp8e5m2) (harg10 : arg10.IsWhole) (arg11 : Memref sig .tc .vmem S672x1536 .bf16) (harg11 : arg11.IsWhole) (arg12 : Memref sig .tc .vmem S672x1536 .bf16) (harg12 : arg12.IsWhole)
    (x0 : Vec Ideal S6x112x1536 .fp8e4m3) (x1 : Vec Ideal S6x112x1536 .fp8e5m2) (x2 : Vec Ideal S6x1536 .f32) (x3 : Vec Ideal S6x1536 .f32) (x4 : Vec Ideal S6x112x1 .f32) (x5 : Vec Ideal S6x112x1 .f32)

/-- The forward codes' stores spell the codes with heads and features on one axis. -/
theorem canon_HS0 : View.canon (kernelRun0_A.sl.HS0_6 c arg1 harg1 x0 : List (View.Piece (Elt Ideal) S672x1536 .bf16)) = flat x0 := by
  simp only [kernelRun0_A.sl.HS0_6, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, View.readAt_eq_ld, harg1.read_unread]
  refine rows_all ?_
  iterate 6
    refine rows_step (m := 112) _ _ _ _ ?_ (c4_ld x0 (by decide) _ (by decide))
  exact fun _ _ h => absurd h (Nat.not_lt_zero _)

/-- The gradient codes' stores likewise. -/
theorem canon_HS1 : View.canon (kernelRun0_A.sl.HS1_6 c arg2 harg2 x1 : List (View.Piece (Elt Ideal) S672x1536 .bf16)) = flat x1 := by
  simp only [kernelRun0_A.sl.HS1_6, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, View.readAt_eq_ld, harg2.read_unread]
  refine rows_all ?_
  iterate 6
    refine rows_step (m := 112) _ _ _ _ ?_ (c5_ld x1 (by decide) _ (by decide))
  exact fun _ _ h => absurd h (Nat.not_lt_zero _)

/-- Before any row is stored the block is zero, as its last two rows of each half stay. -/
theorem zero_rows (L : List (View.Piece (Elt Ideal) S16x1536 .f32)) (inb) (d : Fin 16) (s : Fin 1536) (hd : d.val ∉ [0, 8, 1, 9, 2, 10, 3, 11, 4, 12, 5, 13]) :
    View.canon ((⟨Rect.unit ![0, 0] S16x1536.size inb, k0_pay4 (F := Ideal)⟩ : View.Piece (Elt Ideal) S16x1536 .f32) :: L) (ix2 d s) = scores x0 x2 x4 x5 (ix2 d s) := by
  rw [View.canon_cons_unit_zero (by decide)]
  have hd' : ¬ d.val % 8 < 6 := fun h => hd (by
    have := d.isLt
    simp only [List.mem_cons, List.not_mem_nil, or_false]
    omega)
  show _ = score _ _ _ d
  unfold score
  rw [if_neg hd']
  pointwise [k0_pay4]

/-- The scores' stores. -/
theorem list_6 : View.canon ((kernelRun0_A c i arg1 harg1 arg2 harg2 arg3 harg3 arg4 harg4 arg5 harg5 arg6 harg6 arg7 harg7 arg8 harg8 arg9 harg9 arg10 harg10 arg11 harg11 arg12 harg12 x0 x1 x2 x3 x4 x5).1 : List (View.Piece (Elt Ideal) S16x1536 .f32)) = scores x0 x2 x4 x5 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, View.readAt_eq_ld, harg1.read_unread, harg3.read_unread, harg5.read_unread, harg6.read_unread]
  refine rows_nil ?_
  iterate 6
    refine row_step _ _ _ _ _ ?_ (hi_ld x0 x2 x4 x5 (by decide) _ _ _ (by decide))
    refine row_step _ _ _ _ _ ?_ (lo_ld x0 x2 x4 x5 (by decide) _ _ _)
  exact zero_rows x0 x2 x4 x5 _ _

theorem out_6 : out0_A_6 c i arg1 harg1 arg2 harg2 arg3 harg3 arg4 harg4 arg5 harg5 arg6 harg6 arg7 harg7 arg8 harg8 arg9 harg9 arg10 harg10 arg11 harg11 arg12 harg12 x0 x1 x2 x3 x4 x5 = scores x0 x2 x4 x5 := by
  unfold out0_A_6
  rw [View.read_writes_junk_eq_canon]
  exact list_6 c i arg1 harg1 arg2 harg2 arg3 harg3 arg4 harg4 arg5 harg5 arg6 harg6 arg7 harg7 arg8 harg8 arg9 harg9 arg10 harg10 arg11 harg11 arg12 harg12 x0 x1 x2 x3 x4 x5

/-- The packed gradients' stores. -/
theorem list_7 : View.canon ((kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.1 : List (View.Piece (Elt Ideal) S6x1536x128 .bf16)) = grads hb x1 x3 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, View.readAt_eq_ld, harg2.read_unread, harg4.read_unread]
  refine chunks_all (n := 9216) (by decide) ?_
  iterate 36
    refine chunk_step (m := 256) _ _ _ _ (by decide) ?_ (chunk_ld x1 x3 (by decide) _ _ rfl (by decide) (by decide) (by decide))
  exact fun _ _ _ h => absurd h (Nat.not_lt_zero _)

theorem out_7 : out0_A_7 c i arg1 harg1 arg2 harg2 arg3 harg3 arg4 harg4 arg5 harg5 arg6 harg6 arg7 harg7 arg8 harg8 arg9 harg9 arg10 harg10 arg11 harg11 arg12 harg12 x0 x1 x2 x3 x4 x5 = grads hb x1 x3 := by
  unfold out0_A_7
  rw [View.read_writes_junk_eq_canon]
  exact list_7 c i arg1 harg1 arg2 harg2 arg3 harg3 arg4 harg4 arg5 harg5 arg6 harg6 arg7 harg7 arg8 harg8 arg9 harg9 arg10 harg10 arg11 harg11 arg12 harg12 x0 x1 x2 x3 x4 x5

/-- The two arrays of codes are stored from the scratch. -/
theorem list_8 : View.canon ((kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.1 : List (View.Piece (Elt Ideal) S672x1536 .fp8e4m3)) = flat x0 := by
  unfold kernelRun0_A
  dsimp only
  rw [View.canon_cons_unit_zero (by decide)]
  simp only [kernelRun0_A.sl.v1052, readCov_ld, canon_HS0]
  rw [View.ld_unit_zero (by decide)]
  rfl

theorem out_8 : out0_A_8 c i arg1 harg1 arg2 harg2 arg3 harg3 arg4 harg4 arg5 harg5 arg6 harg6 arg7 harg7 arg8 harg8 arg9 harg9 arg10 harg10 arg11 harg11 arg12 harg12 x0 x1 x2 x3 x4 x5 = flat x0 := by
  unfold out0_A_8
  rw [View.read_writes_junk_eq_canon]
  exact list_8 c i arg1 harg1 arg2 harg2 arg3 harg3 arg4 harg4 arg5 harg5 arg6 harg6 arg7 harg7 arg8 harg8 arg9 harg9 arg10 harg10 arg11 harg11 arg12 harg12 x0 x1 x2 x3 x4 x5

theorem list_9 : View.canon ((kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.1 : List (View.Piece (Elt Ideal) S672x1536 .fp8e5m2)) = flat x1 := by
  unfold kernelRun0_A
  dsimp only
  rw [View.canon_cons_unit_zero (by decide)]
  simp only [kernelRun0_A.sl.v1055, readCov_ld, canon_HS1]
  rw [View.ld_unit_zero (by decide)]
  rfl

theorem out_9 : out0_A_9 c i arg1 harg1 arg2 harg2 arg3 harg3 arg4 harg4 arg5 harg5 arg6 harg6 arg7 harg7 arg8 harg8 arg9 harg9 arg10 harg10 arg11 harg11 arg12 harg12 x0 x1 x2 x3 x4 x5 = flat x1 := by
  unfold out0_A_9
  rw [View.read_writes_junk_eq_canon]
  exact list_9 c i arg1 harg1 arg2 harg2 arg3 harg3 arg4 harg4 arg5 harg5 arg6 harg6 arg7 harg7 arg8 harg8 arg9 harg9 arg10 harg10 arg11 harg11 arg12 harg12 x0 x1 x2 x3 x4 x5

end Cert.PrepIdeal.Run
end
-- ==== Proof.PrepValue.lean ====
module

public import proofs.«01_k».proof.Proof.PrepRun
public import proofs.«01_k».proof.Proof.Gen.PrepIdeal.Value
public import Idealize.ShloMosaic.Lib.Pipeline.ValueKit

/-!
The preparation kernel's blocks at coordinates, and its four result arrays as the closed forms of `PrepSpec` over all nodes.
-/

@[expose] public section
set_option maxRecDepth 16384
noncomputable section
namespace Cert.PrepIdeal.Final
open Cert.PrepIdeal Cert.PrepIdeal.Gen Cert.PrepIdeal.Pieces Cert.Prepare Idealize.ShloMosaic Idealize.ShloMosaic.TcCoe Idealize.SL Idealize.SL.Sem
open Idealize.ShloMosaic.Pipeline (Dat)

variable (m : (ℓ : Loc nD τ sig) → Buf (Elt Ideal) ℓ) (c : Dev nD)

/-- A grid point's number is below twelve. -/
theorem t_lt (t : Fin cfg0.N) : t.val < 12 := lt_of_lt_of_eq t.isLt N_0

/-- The nodes fill whole chunks of 256. -/
theorem hn : 256 ∣ 18432 := ⟨72, rfl⟩

/-! ## Where the blocks sit -/

theorem e0 : ∀ t : Fin cfg0.N, win0_0.index t = ![0, 0, t.val] :=
  (by decide +kernel : ∀ t : Fin grid0.N, win0_0.index t = ![0, 0, t.val])
theorem e1 : ∀ t : Fin cfg0.N, win0_1.index t = ![0, 0, t.val] :=
  (by decide +kernel : ∀ t : Fin grid0.N, win0_1.index t = ![0, 0, t.val])
theorem e2 : ∀ t : Fin cfg0.N, win0_2.index t = ![0, t.val] :=
  (by decide +kernel : ∀ t : Fin grid0.N, win0_2.index t = ![0, t.val])
theorem e3 : ∀ t : Fin cfg0.N, win0_3.index t = ![0, t.val] :=
  (by decide +kernel : ∀ t : Fin grid0.N, win0_3.index t = ![0, t.val])
theorem e4 : ∀ t : Fin cfg0.N, win0_4.index t = ![0, 0, 0] :=
  (by decide +kernel : ∀ t : Fin grid0.N, win0_4.index t = ![0, 0, 0])
theorem e5 : ∀ t : Fin cfg0.N, win0_5.index t = ![0, 0, 0] :=
  (by decide +kernel : ∀ t : Fin grid0.N, win0_5.index t = ![0, 0, 0])
theorem e6 : ∀ t : Fin cfg0.N, win0_6.index t = ![0, t.val] :=
  (by decide +kernel : ∀ t : Fin grid0.N, win0_6.index t = ![0, t.val])
theorem e7 : ∀ t : Fin cfg0.N, win0_7.index t = ![0, t.val, 0] :=
  (by decide +kernel : ∀ t : Fin grid0.N, win0_7.index t = ![0, t.val, 0])
theorem e8 : ∀ t : Fin cfg0.N, win0_8.index t = ![0, t.val] :=
  (by decide +kernel : ∀ t : Fin grid0.N, win0_8.index t = ![0, t.val])
theorem e9 : ∀ t : Fin cfg0.N, win0_9.index t = ![0, t.val] :=
  (by decide +kernel : ∀ t : Fin grid0.N, win0_9.index t = ![0, t.val])

/-! ## The results' blocks cover their arrays -/

theorem cov6 : (cfg0.win 6).Covers := by decide +kernel
theorem cov7 : (cfg0.win 7).Covers := by decide +kernel
theorem cov8 : (cfg0.win 8).Covers := by decide +kernel
theorem cov9 : (cfg0.win 9).Covers := by decide +kernel

/-! ## The arguments and their blocks -/

abbrev A0 : Vec Ideal S6x112x18432 .fp8e4m3 := m ((c : Thread nD τ).loc main_arg0)
abbrev A1 : Vec Ideal S6x112x18432 .fp8e5m2 := m ((c : Thread nD τ).loc main_arg1)
abbrev A2 : Vec Ideal S6x18432 .f32 := m ((c : Thread nD τ).loc main_arg2)
abbrev A3 : Vec Ideal S6x18432 .f32 := m ((c : Thread nD τ).loc main_arg3)
abbrev A4 : Vec Ideal S6x112x1 .f32 := m ((c : Thread nD τ).loc main_arg4)
abbrev A5 : Vec Ideal S6x112x1 .f32 := m ((c : Thread nD τ).loc main_arg5)

variable (t : Fin cfg0.N)

/-- A node of block `t` among all nodes. -/
def at' (j : Fin 1536) : Fin 18432 := ⟨1536 * t.val + j.val, by have := t_lt t; omega⟩

theorem blk0 (i : Fin 6) (f : Fin 112) (j : Fin 1536) : (iblk m c 0 t : Vec Ideal S6x112x1536 .fp8e4m3) (ix3 i f j) = A0 m c (ix3 i f (at' t j)) := by
  blk_ext [iblk, V, at', e0 t]
theorem blk1 (i : Fin 6) (f : Fin 112) (j : Fin 1536) : (iblk m c 1 t : Vec Ideal S6x112x1536 .fp8e5m2) (ix3 i f j) = A1 m c (ix3 i f (at' t j)) := by
  blk_ext [iblk, V, at', e1 t]
theorem blk2 (i : Fin 6) (j : Fin 1536) : (iblk m c 2 t : Vec Ideal S6x1536 .f32) (ix2 i j) = A2 m c (ix2 i (at' t j)) := by
  blk_ext [iblk, V, at', e2 t]
theorem blk3 (i : Fin 6) (j : Fin 1536) : (iblk m c 3 t : Vec Ideal S6x1536 .f32) (ix2 i j) = A3 m c (ix2 i (at' t j)) := by
  blk_ext [iblk, V, at', e3 t]
theorem blk4 : iblk m c 4 t = A4 m c := by
  funext y
  blk_ext [iblk, V, e4 t]
theorem blk5 : iblk m c 5 t = A5 m c := by
  funext y
  blk_ext [iblk, V, e5 t]

/-! ## One block of each result is that block of the whole result -/

section Blocks
variable (X0 : Vec Ideal S6x112x18432 .fp8e4m3) (X1 : Vec Ideal S6x112x18432 .fp8e5m2) (X2 X3 : Vec Ideal S6x18432 .f32) (X4 X5 : Vec Ideal S6x112x1 .f32)
  (x0 : Vec Ideal S6x112x1536 .fp8e4m3) (x1 : Vec Ideal S6x112x1536 .fp8e5m2) (x2 x3 : Vec Ideal S6x1536 .f32)

theorem scores_blk (h0 : ∀ i f j, x0 (ix3 i f j) = X0 (ix3 i f (at' t j))) (h2 : ∀ i j, x2 (ix2 i j) = X2 (ix2 i (at' t j))) (d : Fin 16) (j : Fin 1536) :
    scores x0 x2 X4 X5 (ix2 d j) = scores X0 X2 X4 X5 (ix2 d (at' t j)) := by
  show score (fun h f => x0 (ix3 h f j) * x2 (ix2 h j)) (fun h f => X4 (ix3 h f 0)) (fun h f => X5 (ix3 h f 0)) d
    = score (fun h f => X0 (ix3 h f (at' t j)) * X2 (ix2 h (at' t j))) (fun h f => X4 (ix3 h f 0)) (fun h f => X5 (ix3 h f 0)) d
  simp only [h0, h2]
theorem grads_blk (h1 : ∀ i f j, x1 (ix3 i f j) = X1 (ix3 i f (at' t j))) (h3 : ∀ i j, x3 (ix2 i j) = X3 (ix2 i (at' t j))) (h : Fin 6) (r : Fin 1536) (l : Fin 128) :
    grads hb x1 x3 (ix3 h r l) = grads hn X1 X3 (ix3 h (at' t r) l) := by
  have hf : featOf (at' t r).val l.val = featOf r.val l.val := by simp only [at', featOf]; omega
  have hk : nodeOf (at' t r).val l.val = 1536 * t.val + nodeOf r.val l.val := by simp only [at', nodeOf]; omega
  have hr := nodeOf_lt hb (r := r.val) (l := l.val) r.isLt l.isLt
  have hk' := nodeOf_lt hn (r := (at' t r).val) (l := l.val) (at' t r).isLt l.isLt
  show (if h1 : featOf r.val l.val < 112 then x1 (ix3 h ⟨_, h1⟩ ⟨nodeOf r.val l.val, hr⟩) * x3 (ix2 h ⟨nodeOf r.val l.val, hr⟩) else 0)
    = (if h2 : featOf (at' t r).val l.val < 112 then X1 (ix3 h ⟨_, h2⟩ ⟨nodeOf (at' t r).val l.val, hk'⟩) * X3 (ix2 h ⟨nodeOf (at' t r).val l.val, hk'⟩) else 0)
  have hn' : (⟨nodeOf (at' t r).val l.val, hk'⟩ : Fin 18432) = at' t ⟨nodeOf r.val l.val, hr⟩ := Fin.ext hk
  by_cases hlt : featOf r.val l.val < 112
  · have hlt' : featOf (at' t r).val l.val < 112 := hf ▸ hlt
    have hf' : (⟨featOf (at' t r).val l.val, hlt'⟩ : Fin 112) = ⟨featOf r.val l.val, hlt⟩ := Fin.ext hf
    rw [dif_pos hlt, dif_pos hlt', h1, h3, hn', hf']
  · rw [dif_neg hlt, dif_neg (hf ▸ hlt)]
end Blocks

theorem scores_at (d : Fin 16) (j : Fin 1536) :
    scores (iblk m c 0 t) (iblk m c 2 t) (iblk m c 4 t) (iblk m c 5 t) (ix2 d j) = scores (A0 m c) (A2 m c) (A4 m c) (A5 m c) (ix2 d (at' t j)) := by
  rw [blk4, blk5]
  exact scores_blk t _ _ _ _ _ _ (blk0 m c t) (blk2 m c t) d j
theorem grads_at (h : Fin 6) (r : Fin 1536) (l : Fin 128) :
    grads hb (iblk m c 1 t) (iblk m c 3 t) (ix3 h r l) = grads hn (A1 m c) (A3 m c) (ix3 h (at' t r) l) :=
  grads_blk t _ _ _ _ (blk1 m c t) (blk3 m c t) h r l
theorem flat0_at (d : Fin 672) (j : Fin 1536) : (flat (iblk m c 0 t) : Vec Ideal S672x1536 .fp8e4m3) (ix2 d j) = flat (A0 m c) (ix2 d (at' t j)) :=
  blk0 m c t _ _ j
theorem flat1_at (d : Fin 672) (j : Fin 1536) : (flat (iblk m c 1 t) : Vec Ideal S672x1536 .fp8e5m2) (ix2 d j) = flat (A1 m c) (ix2 d (at' t j)) :=
  blk1 m c t _ _ j

/-! ## The result arrays -/

theorem outs6 : (outsAt0 m c t).1 = scores (iblk m c 0 t) (iblk m c 2 t) (iblk m c 4 t) (iblk m c 5 t) := by
  dsimp only [outsAt0]
  exact Run.out_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
theorem outs7 : (outsAt0 m c t).2.1 = grads hb (iblk m c 1 t) (iblk m c 3 t) := by
  dsimp only [outsAt0]
  exact Run.out_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
theorem outs8 : (outsAt0 m c t).2.2.1 = flat (iblk m c 0 t) := by
  dsimp only [outsAt0]
  exact Run.out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)
theorem outs9 : (outsAt0 m c t).2.2.2 = flat (iblk m c 1 t) := by
  dsimp only [outsAt0]
  exact Run.out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t)

theorem final6 : (dats m 0 c).arrAt 6 cfg0.N = scores (A0 m c) (A2 m c) (A4 m c) (A5 m c) := by
  refine (dats m 0 c).arrAt_eq_of_covers 6 _ cov6 fun t hf y => ?_
  blk_simp
  rw [after0_6, outs6]
  have hb := t_lt t
  refine (congrArg (scores _ _ _ _) (?_ : _ = ix2 (y 0) (y 1))).trans ((scores_at m c t (y 0) (y 1)).trans (congrArg (scores _ _ _ _) ?_))
  · funext a; match a with | ⟨0, _⟩ => rfl | ⟨1, _⟩ => rfl
  · funext a
    apply Fin.ext
    match a with
    | ⟨0, _⟩ =>
      blk_simp [e6]
      simp
    | ⟨1, _⟩ =>
      blk_simp [e6]
      simp [at']
      try omega
theorem final7 : (dats m 0 c).arrAt 7 cfg0.N = grads hn (A1 m c) (A3 m c) := by
  refine (dats m 0 c).arrAt_eq_of_covers 7 _ cov7 fun t hf y => ?_
  blk_simp
  rw [after0_7, outs7]
  have hb := t_lt t
  refine (congrArg (grads _ _ _) (?_ : _ = ix3 (y 0) (y 1) (y 2))).trans ((grads_at m c t (y 0) (y 1) (y 2)).trans (congrArg (grads _ _ _) ?_))
  · funext a; match a with | ⟨0, _⟩ => rfl | ⟨1, _⟩ => rfl | ⟨2, _⟩ => rfl
  · funext a
    apply Fin.ext
    match a with
    | ⟨0, _⟩ =>
      blk_simp [e7]
      simp
    | ⟨1, _⟩ =>
      blk_simp [e7]
      simp [at']
      try omega
    | ⟨2, _⟩ =>
      blk_simp [e7]
      simp
theorem final8 : (dats m 0 c).arrAt 8 cfg0.N = flat (A0 m c) := by
  refine (dats m 0 c).arrAt_eq_of_covers 8 _ cov8 fun t hf y => ?_
  blk_simp
  rw [after0_8, outs8]
  have hb := t_lt t
  refine (congrArg (flat _) (?_ : _ = ix2 (y 0) (y 1))).trans ((flat0_at m c t (y 0) (y 1)).trans (congrArg (flat _) ?_))
  · funext a; match a with | ⟨0, _⟩ => rfl | ⟨1, _⟩ => rfl
  · funext a
    apply Fin.ext
    match a with
    | ⟨0, _⟩ =>
      blk_simp [e8]
      simp
    | ⟨1, _⟩ =>
      blk_simp [e8]
      simp [at']
      try omega
theorem final9 : (dats m 0 c).arrAt 9 cfg0.N = flat (A1 m c) := by
  refine (dats m 0 c).arrAt_eq_of_covers 9 _ cov9 fun t hf y => ?_
  blk_simp
  rw [after0_9, outs9]
  have hb := t_lt t
  refine (congrArg (flat _) (?_ : _ = ix2 (y 0) (y 1))).trans ((flat1_at m c t (y 0) (y 1)).trans (congrArg (flat _) ?_))
  · funext a; match a with | ⟨0, _⟩ => rfl | ⟨1, _⟩ => rfl
  · funext a
    apply Fin.ext
    match a with
    | ⟨0, _⟩ =>
      blk_simp [e9]
      simp
    | ⟨1, _⟩ =>
      blk_simp [e9]
      simp [at']
      try omega

/-- The kernel runs, its four results end at their functions of the arguments, and its arguments are unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = scores (A0 m c) (A2 m c) (A4 m c) (A5 m c)
      ∧ r.2.mem ((c : Thread nD τ).loc main_v0_1) = grads hn (A1 m c) (A3 m c)
      ∧ r.2.mem ((c : Thread nD τ).loc main_v0_2) = flat (A0 m c)
      ∧ r.2.mem ((c : Thread nD τ).loc main_v0_3) = flat (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h6, h7, h8, h9, hrest⟩ := h c
    exact ⟨h6.trans (final6 m c), h7.trans (final7 m c), h8.trans (final8 m c), h9.trans (final9 m c), hrest⟩) (Cert.PrepIdeal.Value.run_blocks m ρ)

end Cert.PrepIdeal.Final
end
-- ==== Proof.PrepRef.lean ====
module

public import proofs.«01_k».proof.Proof.PrepSpec
public import proofs.«01_k».proof.Proof.Gen.PrepReferenceIdeal.Skeleton
public import Idealize.ShloMosaic.Lib.ValueIdxRank6
public import Idealize.ShloMosaic.Lib.Pipeline.Value

/-!
The preparation reference's four arrays at one element, over the extended reals.
-/

@[expose] public section
set_option maxRecDepth 16384
noncomputable section
namespace Cert.PrepReferenceIdeal.Point
open Cert.PrepReferenceIdeal Cert.PrepReferenceIdeal.Gen Cert.Prepare Idealize.ShloMosaic

variable (x0 : Vec Ideal S6x112x18432 .fp8e4m3) (x1 : Vec Ideal S6x112x18432 .fp8e5m2) (x2 x3 : Vec Ideal S6x18432 .f32) (x4 x5 : Vec Ideal S6x112x1 .f32)

theorem pay1_eq : k0_pay1 x0 = flat x0 := by
  funext y
  idx_vars y
  pointwise [k0_pay1, flat]

theorem pay2_eq : k0_pay2 x1 = flat x1 := by
  funext y
  idx_vars y
  pointwise [k0_pay2, flat]

/-- Four parts one above the other. -/
theorem score_parts (h a b : Fin 6 → Fin 112 → EReal) (d : Fin 16) :
    (if hd : d.val < 6 then ∑ f, h ⟨d.val, hd⟩ f * a ⟨d.val, hd⟩ f
      else if _hd : d.val - 6 < 2 then 0
      else if hd : d.val - 6 - 2 < 6 then ∑ f, h ⟨d.val - 6 - 2, hd⟩ f * b ⟨d.val - 6 - 2, hd⟩ f
      else 0) = score h a b d := by
  fin_cases d <;> rfl

theorem pay3_apply (d : Fin 16) (s : Fin 18432) : k0_pay3 x0 x2 x4 x5 (ix2 d s) = scores x0 x2 x4 x5 (ix2 d s) := by
  refine Eq.trans ?_ (score_parts _ _ _ d)
  pointwise [k0_pay3]

/-- The six-axis form of a padded array: features in two halves, nodes in chunks of two halves, read where the reference lays them. -/
theorem lay_apply {α : Type} (v : S6x128x18432.Idx → α) (h : Fin 6) (r : Fin 18432) (l : Fin 128) (f : Fin 128) (k : Fin 18432)
    (hf : f.val = featOf r.val l.val) (hk : k.val = nodeOf r.val l.val) :
    shapeCast S6x18432x128 (transpose S6x72x128x2x2x64 [0, 3, 5, 1, 4, 2] (shapeCast S6x2x64x72x2x128 v
      shapeCasts_S6x128x18432_S6x2x64x72x2x128) transposes_S6x2x64x72x2x128_p0_3_5_1_4_2_S6x72x128x2x2x64)
      shapeCasts_S6x72x128x2x2x64_S6x18432x128 (ix3 h r l) = v (ix3 h f k) := by
  have hr := r.isLt
  have hl := l.isLt
  unfold featOf at hf
  unfold nodeOf at hk
  refine (shapeCast_apply _ _ _ (ix6 (n0 := 6) (n1 := 72) (n2 := 128) (n3 := 2) (n4 := 2) (n5 := 64) h ⟨r.val / 256, by omega⟩ ⟨r.val % 256 / 2, by omega⟩ ⟨r.val % 2, by omega⟩
    ⟨l.val / 64, by omega⟩ ⟨l.val % 64, by omega⟩) ?_).trans ?_
  · rw [Shape.rowMajor_val_six, Shape.rowMajor_val_three]
    show ((((h.val * 72 + r.val / 256) * 128 + r.val % 256 / 2) * 2 + r.val % 2) * 2 + l.val / 64) * 64 + l.val % 64 =
      (h.val * 18432 + r.val) * 128 + l.val
    omega
  refine (transpose_apply _ _ _ _ (ix6 (n0 := 6) (n1 := 2) (n2 := 64) (n3 := 72) (n4 := 2) (n5 := 128) h ⟨r.val % 2, by omega⟩ ⟨l.val % 64, by omega⟩ ⟨r.val / 256, by omega⟩
    ⟨l.val / 64, by omega⟩ ⟨r.val % 256 / 2, by omega⟩) ?_).trans ?_
  · intro b
    fin_cases b <;> rfl
  refine shapeCast_apply _ _ _ _ ?_
  rw [Shape.rowMajor_val_six, Shape.rowMajor_val_three]
  show (h.val * 128 + f.val) * 18432 + k.val =
    ((((h.val * 2 + r.val % 2) * 64 + l.val % 64) * 72 + r.val / 256) * 2 + l.val / 64) * 128 + r.val % 256 / 2
  omega

theorem pad_apply (h : Fin 6) (f : Fin 128) (k : Fin 18432) (c : FVec Ideal S6x112x18432 .f32) (z : FVec Ideal S6x16x18432 .f32) (hz : ∀ j, z j = 0) :
    concatenate S6x128x18432 1 [⟨S6x112x18432, c⟩, ⟨S6x16x18432, z⟩] concatenates_S6x112x18432_S6x16x18432_S6x128x18432_d1 (ix3 h f k)
      = if hf : f.val < 112 then c (ix3 h ⟨f.val, hf⟩ k) else 0 := by
  pointwise [hz]

theorem prod_apply (h : Fin 6) (f : Fin 112) (k : Fin 18432) :
    mulf (F := Ideal) (extf .f32 x1 bitsLt_fp8e5m2_f32) (broadcastTo S6x112x18432 (shapeCast S6x1x18432 x3 shapeCasts_S6x18432_S6x1x18432) broadcasts_S6x1x18432_S6x112x18432) (ix3 h f k)
      = x1 (ix3 h f k) * x3 (ix2 h k) := by
  pointwise

/-- A change of width keeps an ideal element. -/
theorem trunc_apply {s : Shape} (v : FVec Ideal s .f32) (h) (j : s.Idx) : truncf (F := Ideal) .bf16 v h j = v j := rfl

theorem pay4_apply (h : Fin 6) (r : Fin 18432) (l : Fin 128) (hn : 256 ∣ 18432) : k0_pay4 x1 x3 (ix3 h r l) = grads hn x1 x3 (ix3 h r l) := by
  have hf : featOf r.val l.val < 128 := by unfold featOf; omega
  have hz : ∀ j, broadcast S6x16x18432 (Scalar.ofBits .f32 0x00000000#32 : Ideal .f32) j = 0 := by intro j; pointwise
  unfold k0_pay4
  dsimp only
  rw [trunc_apply, lay_apply _ h r l ⟨_, hf⟩ ⟨_, nodeOf_lt hn r.isLt l.isLt⟩ rfl rfl, pad_apply h ⟨_, hf⟩ _ _ _ hz]
  simp only [prod_apply]
  rfl
end Cert.PrepReferenceIdeal.Point
end
-- ==== Proof.PrepReferenceValue.lean ====
/- The preparation reference's arrays after its run, each as one function of the argument arrays. It has one grid point, and
   every block is its whole array. -/
module
public import proofs.«01_k».proof.Proof.PrepRef
public import proofs.«01_k».proof.Proof.Gen.PrepReferenceIdeal.Frame
public import Idealize.ShloMosaic.Lib.Pipeline.Value
public import Idealize.ShloMosaic.Lib.Pipeline.ValueKit

@[expose] public section

set_option maxRecDepth 16384

noncomputable section

namespace Cert.PrepReferenceIdeal.Value

open Cert.PrepReferenceIdeal Cert.PrepReferenceIdeal.Gen Cert.PrepReferenceIdeal.Point Cert.Prepare Idealize.ShloMosaic Idealize.ShloMosaic.TcCoe Idealize.SL.Sem
open Idealize.ShloMosaic.Pipeline (Dat)

theorem z2 : (![0, 0] : Fin 2 → Nat) = fun _ => 0 := funext fun a => by fin_cases a <;> rfl
theorem z3 : (![0, 0, 0] : Fin 3 → Nat) = fun _ => 0 := funext fun a => by fin_cases a <;> rfl

/-- The nodes fill whole chunks of 256. -/
theorem hn : 256 ∣ 18432 := ⟨72, rfl⟩

/-! ## The body loads whole blocks and stores each result whole -/

section Results
variable (x0 : Vec Ideal S6x112x18432 .fp8e4m3) (x1 : Vec Ideal S6x112x18432 .fp8e5m2) (x2 x3 : Vec Ideal S6x18432 .f32) (x4 x5 : Vec Ideal S6x112x1 .f32)

theorem out6_eq : out0_6 x0 x1 x2 x3 x4 x5 = scores x0 x2 x4 x5 := by
  unfold out0_6
  rw [View.canon_unit_zero z2]
  simp only [View.ld_unit_zero (S := S6x112x18432) z3, View.ld_unit_zero (S := S6x18432) z2, View.ld_unit_zero (S := S6x112x1) z3]
  funext y
  idx_vars y
  exact pay3_apply x0 x2 x4 x5 _ _
theorem out7_eq : out0_7 x0 x1 x2 x3 x4 x5 = grads hn x1 x3 := by
  unfold out0_7
  rw [View.canon_unit_zero z3]
  simp only [View.ld_unit_zero (S := S6x112x18432) z3, View.ld_unit_zero (S := S6x18432) z2]
  funext y
  idx_vars y
  exact pay4_apply x1 x3 _ _ _ hn
theorem out8_eq : out0_8 x0 x1 x2 x3 x4 x5 = flat x0 := by
  unfold out0_8
  rw [View.canon_unit_zero z2]
  simp only [View.ld_unit_zero (S := S6x112x18432) z3]
  exact pay1_eq x0
theorem out9_eq : out0_9 x0 x1 x2 x3 x4 x5 = flat x1 := by
  unfold out0_9
  rw [View.canon_unit_zero z2]
  simp only [View.ld_unit_zero (S := S6x112x18432) z3]
  exact pay2_eq x1
end Results

variable (m : (ℓ : Loc nD τ sig) → Buf (Elt Ideal) ℓ) (ρ : Dev nD → PrngReg) (c : Dev nD)

/-! ## Every argument's block is the argument -/

abbrev R0 : Vec Ideal S6x112x18432 .fp8e4m3 := m ((c : Thread nD τ).loc main_arg0)
abbrev R1 : Vec Ideal S6x112x18432 .fp8e5m2 := m ((c : Thread nD τ).loc main_arg1)
abbrev R2 : Vec Ideal S6x18432 .f32 := m ((c : Thread nD τ).loc main_arg2)
abbrev R3 : Vec Ideal S6x18432 .f32 := m ((c : Thread nD τ).loc main_arg3)
abbrev R4 : Vec Ideal S6x112x1 .f32 := m ((c : Thread nD τ).loc main_arg4)
abbrev R5 : Vec Ideal S6x112x1 .f32 := m ((c : Thread nD τ).loc main_arg5)

/-- The one point. -/
def pt : Fin cfg0.N := ⟨0, by decide +kernel⟩

theorem blk0 : iblk m c 0 pt = R0 m c := by
  funext y
  blk_ext [iblk, V, (by decide +kernel : win0_0.index pt = ![0, 0, 0])]
theorem blk1 : iblk m c 1 pt = R1 m c := by
  funext y
  blk_ext [iblk, V, (by decide +kernel : win0_1.index pt = ![0, 0, 0])]
theorem blk2 : iblk m c 2 pt = R2 m c := by
  funext y
  blk_ext [iblk, V, (by decide +kernel : win0_2.index pt = ![0, 0])]
theorem blk3 : iblk m c 3 pt = R3 m c := by
  funext y
  blk_ext [iblk, V, (by decide +kernel : win0_3.index pt = ![0, 0])]
theorem blk4 : iblk m c 4 pt = R4 m c := by
  funext y
  blk_ext [iblk, V, (by decide +kernel : win0_4.index pt = ![0, 0, 0])]
theorem blk5 : iblk m c 5 pt = R5 m c := by
  funext y
  blk_ext [iblk, V, (by decide +kernel : win0_5.index pt = ![0, 0, 0])]

/-! ## The result arrays -/

theorem final6 : (dats m 0 c).arrAt 6 cfg0.N = scores (R0 m c) (R2 m c) (R4 m c) (R5 m c) := by
  refine (dats m 0 c).arrAt_eq_of_after_last 6 pt (by decide +kernel) _ fun y => ?_
  blk_simp
  rw [after0_6, out6_eq, blk0, blk2, blk4, blk5]
theorem final7 : (dats m 0 c).arrAt 7 cfg0.N = grads hn (R1 m c) (R3 m c) := by
  refine (dats m 0 c).arrAt_eq_of_after_last 7 pt (by decide +kernel) _ fun y => ?_
  blk_simp
  rw [after0_7, out7_eq, blk1, blk3]
theorem final8 : (dats m 0 c).arrAt 8 cfg0.N = flat (R0 m c) := by
  refine (dats m 0 c).arrAt_eq_of_after_last 8 pt (by decide +kernel) _ fun y => ?_
  blk_simp
  rw [after0_8, out8_eq, blk0]
theorem final9 : (dats m 0 c).arrAt 9 cfg0.N = flat (R1 m c) := by
  refine (dats m 0 c).arrAt_eq_of_after_last 9 pt (by decide +kernel) _ fun y => ?_
  blk_simp
  rw [after0_9, out9_eq, blk1]

/-- An argument's array is left as it was. -/
theorem kept (r : PUnit × MemSt nD τ sig (Elt Ideal)) (h : Pipeline.FramePost cfgs (dats m) 0 (V m) r) (w : Fin cfg0.W)
    (hw : (cfg0.win w).isOut = false) :
    r.2.mem ((cfg0.spec w).arr.view.loc (c : Thread nD τ)) = V m c (Pipeline.arrRef spec0 w) :=
  (h.in_eq c w hw).trans (A_eq m c w)

/-- The reference runs, its four results end at their functions of the arguments, and its arguments are unchanged. -/
theorem run : θ_run defs (onTc (τ := τ) (main (F := Ideal))) ⟨m, fun _ => 0, ρ⟩ fun r => ∀ c : Dev nD,
      r.2.mem ((c : Thread nD τ).loc main_v0_0) = scores (R0 m c) (R2 m c) (R4 m c) (R5 m c)
      ∧ r.2.mem ((c : Thread nD τ).loc main_v0_1) = grads hn (R1 m c) (R3 m c)
      ∧ r.2.mem ((c : Thread nD τ).loc main_v0_2) = flat (R0 m c)
      ∧ r.2.mem ((c : Thread nD τ).loc main_v0_3) = flat (R1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.out_eq c 6).trans (final6 m c), (h.out_eq c 7).trans (final7 m c), (h.out_eq c 8).trans (final8 m c), (h.out_eq c 9).trans (final9 m c),
    kept m c r h 0 rfl, kept m c r h 1 rfl, kept m c r h 2 rfl, kept m c r h 3 rfl, kept m c r h 4 rfl, kept m c r h 5 rfl⟩) (run_main m ρ)

end Cert.PrepReferenceIdeal.Value

end
-- ==== Proof.lean ====
/- The proof of the certificate's claim. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.PreRange
public import proofs.«01_k».proof.Proof.Gen.Prep.Frame
public import proofs.«01_k».proof.Proof.Gen.PrepIdeal.Frame
public import proofs.«01_k».proof.Proof.Gen.PrepIdeal.Value
public import proofs.«01_k».proof.Proof.PrepValue
public import Idealize.ShloMosaic.Lib.Bf16Pair
public import proofs.«01_k».proof.Proof.PrepReferenceValue
public import proofs.«01_k».proof.Proof.Gen.PrepReferenceIdeal.Frame

@[expose] public section

set_option maxRecDepth 16384

namespace Cert.KernelIdeal.Final
open Cert.KernelIdeal Cert.KernelIdeal.Gen Idealize.ShloMosaic Idealize.ShloMosaic.TcCoe Idealize.SL Idealize.SL.Sem

variable (m : (ℓ : Loc nD τ sig) → Buf (Elt Ideal) ℓ) (ρ : Dev nD → PrngReg)

/-- The kernel runs, its six results end at the closed forms of its arguments, and its arguments are unchanged. -/
theorem run : θ_run (defs (F := Ideal)) (onTc (τ := τ) (main (F := Ideal))) ⟨m, fun _ => 0, ρ⟩ fun r => ∀ c : Dev nD,
      r.2.mem ((c : Thread nD τ).loc main_v0_0) = k11 (A0 m c) (A1 m c) (A2 m c) (A5 m c) (A6 m c) (A9 m c) (A10 m c)
      ∧ r.2.mem ((c : Thread nD τ).loc main_v0_1) = k12 (A0 m c) (A1 m c) (A2 m c) (A5 m c) (A6 m c) (A7 m c) (A8 m c)
      ∧ r.2.mem ((c : Thread nD τ).loc main_v0_2) = k13 (A3 m c) (A4 m c) (A1 m c)
      ∧ r.2.mem ((c : Thread nD τ).loc main_v0_3) = k13 (A3 m c) (A4 m c) (A2 m c)
      ∧ r.2.mem ((c : Thread nD τ).loc main_v0_4) = k15 (A0 m c) (A1 m c) (A2 m c) (A5 m c) (A6 m c)
      ∧ r.2.mem ((c : Thread nD τ).loc main_v0_5) = k16 (A0 m c) (A1 m c) (A2 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨h11, h12, h13, h14, h15, h16, hrest⟩ := h c
    exact ⟨h11.trans (final11 m c), h12.trans (final12 m c), h13.trans (final13 m c), h14.trans (final14 m c),
      h15.trans (final15 m c), h16.trans (final16 m c), hrest⟩) (Cert.KernelIdeal.Value.run_blocks m ρ)

end Cert.KernelIdeal.Final

open Idealize.ShloMosaic Idealize.SL Idealize.SL.Sem Cert.KernelIdeal.Final Cert.ReferenceIdeal.Point in
/-- Over the extended reals, on rows in range, the kernel and the reference end with the same six results. -/
theorem Cert.Proof.algebraic : Cert.algebraic_KernelIdeal_ReferenceIdeal_pre_rows_in_range (hKernelIdeal := Cert.KernelIdeal.Gen.facts)
    (hReferenceIdeal := Cert.ReferenceIdeal.Gen.facts) (hPre_rows_in_range := Cert.Pre_rows_in_range.facts) := by
  intro m g m' g' hp hm
  have ok : ∀ c, RowsOk (A0 m c) (A1 m c) (A2 m c) (A5 m c) (A6 m c) := fun c =>
    @Cert.Pre_rows_in_range.rows_ok Cert.Pre_rows_in_range.facts _ _ _ _ _ _ _ _ _ _ _ (hp c)
  refine ⟨fun c => k11 (A0 m c) (A1 m c) (A2 m c) (A5 m c) (A6 m c) (A9 m c) (A10 m c),
    fun c => k12 (A0 m c) (A1 m c) (A2 m c) (A5 m c) (A6 m c) (A7 m c) (A8 m c),
    fun c => k13 (A3 m c) (A4 m c) (A1 m c),
    fun c => k13 (A3 m c) (A4 m c) (A2 m c),
    fun c => k15 (A0 m c) (A1 m c) (A2 m c) (A5 m c) (A6 m c),
    fun c => k16 (A0 m c) (A1 m c) (A2 m c) (A5 m c) (A6 m c),
    Cert.KernelIdeal.Final.run m g, ?_⟩
  refine (θ_run _ _ _).mono (fun r h c => ?_) (Cert.ReferenceIdeal.Value.run m' g')
  obtain ⟨h11, h12, h13, h14, h15, h16, hrest⟩ := h c
  obtain ⟨e0, e1, e2, e3, e4, e5, e6, e7, e8, e9, e10⟩ := hm c
  dsimp only [Cert.ReferenceIdeal.Value.R0, Cert.ReferenceIdeal.Value.R1, Cert.ReferenceIdeal.Value.R2, Cert.ReferenceIdeal.Value.R3, Cert.ReferenceIdeal.Value.R4, Cert.ReferenceIdeal.Value.R5, Cert.ReferenceIdeal.Value.R6, Cert.ReferenceIdeal.Value.R7, Cert.ReferenceIdeal.Value.R8, Cert.ReferenceIdeal.Value.R9, Cert.ReferenceIdeal.Value.R10] at h11 h12 h13 h14 h15 h16
  rw [e0, e1, e2, e3, e4, e5, e6, e7, e8, e9, e10] at h11 h12 h13 h14 h15 h16
  exact ⟨h11.trans (agree11 (A0 m c) (A1 m c) (A2 m c) (A3 m c) (A4 m c) (A5 m c) (A6 m c) (A7 m c) (A8 m c) (A9 m c) (A10 m c) (ok c)).symm,
    h12.trans (agree12 (A0 m c) (A1 m c) (A2 m c) (A3 m c) (A4 m c) (A5 m c) (A6 m c) (A7 m c) (A8 m c) (A9 m c) (A10 m c) (ok c)).symm,
    h13.trans (agree13 (A0 m c) (A1 m c) (A2 m c) (A3 m c) (A4 m c) (A5 m c) (A6 m c) (A7 m c) (A8 m c) (A9 m c) (A10 m c)).symm,
    h14.trans (agree14 (A0 m c) (A1 m c) (A2 m c) (A3 m c) (A4 m c) (A5 m c) (A6 m c) (A7 m c) (A8 m c) (A9 m c) (A10 m c)).symm,
    h15.trans (agree15 (A0 m c) (A1 m c) (A2 m c) (A3 m c) (A4 m c) (A5 m c) (A6 m c) (A7 m c) (A8 m c) (A9 m c) (A10 m c) (ok c)).symm,
    h16.trans (agree16 (A0 m c) (A1 m c) (A2 m c) (A3 m c) (A4 m c) (A5 m c) (A6 m c) (A7 m c) (A8 m c) (A9 m c) (A10 m c) (ok c)).symm,
    hrest⟩

open Idealize.ShloMosaic Idealize.SL Idealize.SL.Sem Cert.PrepIdeal.Final Cert.Prepare in
/-- Over the extended reals the preparation kernel and its reference end with the same four results. -/
theorem Cert.Proof.algebraicPrep : Cert.algebraic_PrepIdeal_PrepReferenceIdeal (hPrepIdeal := Cert.PrepIdeal.Gen.facts)
    (hPrepReferenceIdeal := Cert.PrepReferenceIdeal.Gen.facts) := by
  intro m g m' g' _ hm
  refine ⟨fun c => scores (A0 m c) (A2 m c) (A4 m c) (A5 m c), fun c => grads hn (A1 m c) (A3 m c), fun c => flat (A0 m c), fun c => flat (A1 m c),
    Cert.PrepIdeal.Final.run m g, ?_⟩
  refine (θ_run _ _ _).mono (fun r h c => ?_) (Cert.PrepReferenceIdeal.Value.run m' g')
  obtain ⟨h6, h7, h8, h9, hrest⟩ := h c
  obtain ⟨e0, e1, e2, e3, e4, e5⟩ := hm c
  dsimp only [Cert.PrepReferenceIdeal.Value.R0, Cert.PrepReferenceIdeal.Value.R1, Cert.PrepReferenceIdeal.Value.R2, Cert.PrepReferenceIdeal.Value.R3, Cert.PrepReferenceIdeal.Value.R4, Cert.PrepReferenceIdeal.Value.R5] at h6 h7 h8 h9
  rw [e0, e2, e4, e5] at h6
  rw [e1, e3] at h7
  rw [e0] at h8
  rw [e1] at h9
  exact ⟨h6, h7, h8, h9, hrest⟩

/-- For both calls: the frames, what the idealization rewrites, and that kernel and reference agree over the extended reals. -/
theorem Cert.Proof.claim : Cert.Claim :=
  ⟨Cert.Kernel.Gen.facts, Cert.KernelIdeal.Gen.facts, Cert.ReferenceIdeal.Gen.facts, Cert.Prep.Gen.facts, Cert.PrepIdeal.Gen.facts,
    Cert.PrepReferenceIdeal.Gen.facts, Cert.Pre_rows_in_range.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Prep.Gen.frame m ρ, fun m ρ _ => Cert.PrepIdeal.Gen.frame m ρ, fun m ρ _ => Cert.PrepReferenceIdeal.Gen.frame m ρ,
    trivial, Cert.Proof.algebraic,
    ⟨Idealize.ShloMosaic.IdealRules.bf16_pair.statement _ _, Idealize.ShloMosaic.IdealRules.bf16_pack.statement _⟩, Cert.Proof.algebraicPrep⟩
